-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_point_is_uint8 [hPre_zero_point_is_uint8 : Cert.Pre_zero_point_is_uint8.Facts] (m : (ℓ : Loc Cert.KernelIdeal.nD Cert.KernelIdeal.τ Cert.KernelIdeal.sig) → Buf (Elt Ideal) ℓ) : Prop :=
  ∀ c : Dev Cert.KernelIdeal.nD,
    (Cert.Pre_zero_point_is_uint8.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_point_is_uint8 [hPre_zero_point_is_uint8 : Cert.Pre_zero_point_is_uint8.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_point_is_uint8.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_zero_point_is_uint8 [hKernelIdeal : Cert.KernelIdeal.Facts] [hPre_zero_point_is_uint8 : Cert.Pre_zero_point_is_uint8.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_point_is_uint8 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zero_point_is_uint8 [hReferenceIdeal : Cert.ReferenceIdeal.Facts] [hPre_zero_point_is_uint8 : Cert.Pre_zero_point_is_uint8.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_point_is_uint8 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_zero_point_is_uint8 [hKernelIdeal : Cert.KernelIdeal.Facts] [hReferenceIdeal : Cert.ReferenceIdeal.Facts] [hPre_zero_point_is_uint8 : Cert.Pre_zero_point_is_uint8.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_point_is_uint8 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zero_point_is_uint8 : Cert.Pre_zero_point_is_uint8.Facts),
    quiescent_Kernel (hKernel := hKernel)
    ∧ quiescent_KernelIdeal (hKernelIdeal := hKernelIdeal)
    ∧ quiescent_KernelIdeal_pre_zero_point_is_uint8 (hKernelIdeal := hKernelIdeal) (hPre_zero_point_is_uint8 := hPre_zero_point_is_uint8)
    ∧ quiescent_ReferenceIdeal (hReferenceIdeal := hReferenceIdeal)
    ∧ quiescent_ReferenceIdeal_pre_zero_point_is_uint8 (hReferenceIdeal := hReferenceIdeal) (hPre_zero_point_is_uint8 := hPre_zero_point_is_uint8)
    ∧ preserves_Kernel_KernelIdeal
    ∧ algebraic_KernelIdeal_ReferenceIdeal_pre_zero_point_is_uint8 (hKernelIdeal := hKernelIdeal) (hReferenceIdeal := hReferenceIdeal) (hPre_zero_point_is_uint8 := hPre_zero_point_is_uint8)
-- ==== Pre_zero_point_is_uint8.lean ====
abbrev S4x8x6x1536 : Shape := ⟨4, ![4, 8, 6, 1536]⟩
abbrev S1 : Shape := ⟨1, ![1]⟩
abbrev S2048x3x3x1536 : Shape := ⟨4, ![2048, 3, 3, 1536]⟩
abbrev S2048 : Shape := ⟨1, ![2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S4x8x6x1536 8) (main_arg1 : IVec S1 32) (main_arg2 : IVec S2048x3x3x1536 8) (main_arg3 : IVec S1 32) (main_arg4 : IVec S2048 32) (main_arg5 : IVec S1 32) (main_arg6 : IVec S1 32) (main_arg7 : IVec S1 32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 255#32
  let main_v2 : IVec S1 32 := broadcastInDim S1 ![] bcast_S_S1 main_c_0
  let main_v3 : IVec S1 1 := cmpi .sle main_arg1 main_v2
  let main_v4 : IVec S1 1 := andi main_v1 main_v3
  main_v4
-- ==== Kernel.lean ====
abbrev S4x8x6x1536 : Shape := ⟨4, ![4, 8, 6, 1536]⟩
abbrev S1 : Shape := ⟨1, ![1]⟩
abbrev S2048x3x3x1536 : Shape := ⟨4, ![2048, 3, 3, 1536]⟩
abbrev S2048 : Shape := ⟨1, ![2048]⟩
abbrev S4x6x8x1536 : Shape := ⟨4, ![4, 6, 8, 1536]⟩
abbrev S_ : Shape := ⟨0, ![]⟩
abbrev S4x8x10x1536 : Shape := ⟨4, ![4, 8, 10, 1536]⟩
abbrev S192x1536 : Shape := ⟨2, ![192, 1536]⟩
abbrev S1x192x1536 : Shape := ⟨3, ![1, 192, 1536]⟩
abbrev S9x192x1536 : Shape := ⟨3, ![9, 192, 1536]⟩
abbrev S3x3x2048x1536 : Shape := ⟨4, ![3, 3, 2048, 1536]⟩
abbrev S9x2048x1536 : Shape := ⟨3, ![9, 2048, 1536]⟩
abbrev S4 : Shape := ⟨1, ![4]⟩
abbrev S1x2048 : Shape := ⟨2, ![1, 2048]⟩
abbrev S192x2048 : Shape := ⟨2, ![192, 2048]⟩
abbrev S1x512x1536 : Shape := ⟨3, ![1, 512, 1536]⟩
abbrev S1x512 : Shape := ⟨2, ![1, 512]⟩
abbrev S192x512 : Shape := ⟨2, ![192, 512]⟩
abbrev S192x128 : Shape := ⟨2, ![192, 128]⟩
abbrev S192 : Shape := ⟨1, ![192]⟩
abbrev S192x1 : Shape := ⟨2, ![192, 1]⟩
abbrev S1x512x512 : Shape := ⟨3, ![1, 512, 512]⟩
abbrev S512x512 : Shape := ⟨2, ![512, 512]⟩
abbrev S1x192x512 : Shape := ⟨3, ![1, 192, 512]⟩
abbrev S4x6x8x2048 : Shape := ⟨4, ![4, 6, 8, 2048]⟩
abbrev S4x8x6x2048 : Shape := ⟨4, ![4, 8, 6, 2048]⟩

abbrev nBuf : Space → Nat
  | .hbm => 56
  | .vmem => 10
  | .smem => 1
  | _ => 0

abbrev bufTy : (tb : Table) → Fin (tcTables nBuf tb) → BufTy
  | .hbm, ⟨0, _⟩ => ⟨S4x8x6x1536, .i8⟩
  | .hbm, ⟨1, _⟩ => ⟨S1, .i32⟩
  | .hbm, ⟨2, _⟩ => ⟨S2048x3x3x1536, .i8⟩
  | .hbm, ⟨3, _⟩ => ⟨S1, .i32⟩
  | .hbm, ⟨4, _⟩ => ⟨S2048, .i32⟩
  | .hbm, ⟨5, _⟩ => ⟨S1, .i32⟩
  | .hbm, ⟨6, _⟩ => ⟨S1, .i32⟩
  | .hbm, ⟨7, _⟩ => ⟨S1, .i32⟩
  | .hbm, ⟨8, _⟩ => ⟨S4x6x8x1536, .i8⟩
  | .hbm, ⟨9, _⟩ => ⟨S4x6x8x1536, .i32⟩
  | .hbm, ⟨10, _⟩ => ⟨S_, .i32⟩
  | .hbm, ⟨11, _⟩ => ⟨S4x6x8x1536, .i32⟩
  | .hbm, ⟨12, _⟩ => ⟨S4x6x8x1536, .i32⟩
  | .hbm, ⟨13, _⟩ => ⟨S_, .i32⟩
  | .hbm, ⟨14, _⟩ => ⟨S_, .i32⟩
  | .hbm, ⟨15, _⟩ => ⟨S4x8x10x1536, .i32⟩
  | .hbm, ⟨16, _⟩ => ⟨S4x8x10x1536, .bf16⟩
  | .hbm, ⟨17, _⟩ => ⟨S4x6x8x1536, .bf16⟩
  | .hbm, ⟨18, _⟩ => ⟨S192x1536, .bf16⟩
  | .hbm, ⟨19, _⟩ => ⟨S4x6x8x1536, .bf16⟩
  | .hbm, ⟨20, _⟩ => ⟨S192x1536, .bf16⟩
  | .hbm, ⟨21, _⟩ => ⟨S4x6x8x1536, .bf16⟩
  | .hbm, ⟨22, _⟩ => ⟨S192x1536, .bf16⟩
  | .hbm, ⟨23, _⟩ => ⟨S4x6x8x1536, .bf16⟩
  | .hbm, ⟨24, _⟩ => ⟨S192x1536, .bf16⟩
  | .hbm, ⟨25, _⟩ => ⟨S4x6x8x1536, .bf16⟩
  | .hbm, ⟨26, _⟩ => ⟨S192x1536, .bf16⟩
  | .hbm, ⟨27, _⟩ => ⟨S4x6x8x1536, .bf16⟩
  | .hbm, ⟨28, _⟩ => ⟨S192x1536, .bf16⟩
  | .hbm, ⟨29, _⟩ => ⟨S4x6x8x1536, .bf16⟩
  | .hbm, ⟨30, _⟩ => ⟨S192x1536, .bf16⟩
  | .hbm, ⟨31, _⟩ => ⟨S4x6x8x1536, .bf16⟩
  | .hbm, ⟨32, _⟩ => ⟨S192x1536, .bf16⟩
  | .hbm, ⟨33, _⟩ => ⟨S4x6x8x1536, .bf16⟩
  | .hbm, ⟨34, _⟩ => ⟨S192x1536, .bf16⟩
  | .hbm, ⟨35, _⟩ => ⟨S1x192x1536, .bf16⟩
  | .hbm, ⟨36, _⟩ => ⟨S1x192x1536, .bf16⟩
  | .hbm, ⟨37, _⟩ => ⟨S1x192x1536, .bf16⟩
  | .hbm, ⟨38, _⟩ => ⟨S1x192x1536, .bf16⟩
  | .hbm, ⟨39, _⟩ => ⟨S1x192x1536, .bf16⟩
  | .hbm, ⟨40, _⟩ => ⟨S1x192x1536, .bf16⟩
  | .hbm, ⟨41, _⟩ => ⟨S1x192x1536, .bf16⟩
  | .hbm, ⟨42, _⟩ => ⟨S1x192x1536, .bf16⟩
  | .hbm, ⟨43, _⟩ => ⟨S1x192x1536, .bf16⟩
  | .hbm, ⟨44, _⟩ => ⟨S9x192x1536, .bf16⟩
  | .hbm, ⟨45, _⟩ => ⟨S3x3x2048x1536, .i8⟩
  | .hbm, ⟨46, _⟩ => ⟨S9x2048x1536, .i8⟩
  | .hbm, ⟨47, _⟩ => ⟨S_, .i32⟩
  | .hbm, ⟨48, _⟩ => ⟨S1, .i32⟩
  | .hbm, ⟨49, _⟩ => ⟨S1, .i32⟩
  | .hbm, ⟨50, _⟩ => ⟨S1, .i32⟩
  | .hbm, ⟨51, _⟩ => ⟨S4, .i32⟩
  | .hbm, ⟨52, _⟩ => ⟨S1x2048, .i32⟩
  | .hbm, ⟨53, _⟩ => ⟨S192x2048, .i8⟩
  | .hbm, ⟨54, _⟩ => ⟨S4x6x8x2048, .i8⟩
  | .hbm, ⟨55, _⟩ => ⟨S4x8x6x2048, .i8⟩
  | .local _ .vmem, ⟨0, _⟩ => ⟨S1x192x1536, .bf16⟩
  | .local _ .vmem, ⟨1, _⟩ => ⟨S1x192x1536, .bf16⟩
  | .local _ .vmem, ⟨2, _⟩ => ⟨S1x512x1536, .i8⟩
  | .local _ .vmem, ⟨3, _⟩ => ⟨S1x512x1536, .i8⟩
  | .local _ .vmem, ⟨4, _⟩ => ⟨S1x512, .i32⟩
  | .local _ .vmem, ⟨5, _⟩ => ⟨S1x512, .i32⟩
  | .local _ .vmem, ⟨6, _⟩ => ⟨S192x512, .i8⟩
  | .local _ .vmem, ⟨7, _⟩ => ⟨S192x512, .i8⟩
  | .local _ .vmem, ⟨8, _⟩ => ⟨S192x512, .i32⟩
  | .local _ .vmem, ⟨9, _⟩ => ⟨S192x128, .f32⟩
  | .local _ .smem, ⟨0, _⟩ => ⟨S4, .i32⟩
  | _, _ => ⟨S4x8x6x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_cond4 (i : grid0.Coords) : BitVec 1 :=
  let arg1 : BitVec 32 := BitVec.ofNat 32 (i 1).val
  let c8_i32 : BitVec 32 := 8#32
  let v60 : BitVec 1 := Scalar.cmpi .eq arg1 c8_i32
  let v61 : BitVec 32 := Scalar.extui v60
  let c0_i32_38 : BitVec 32 := 0#32
  let v62 : BitVec 1 := Scalar.cmpi .ne v61 c0_i32_38
  v62

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x192x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S192x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x8x6x1536 : Shape := ⟨4, ![4, 8, 6, 1536]⟩
abbrev S1 : Shape := ⟨1, ![1]⟩
abbrev S2048x3x3x1536 : Shape := ⟨4, ![2048, 3, 3, 1536]⟩
abbrev S2048 : Shape := ⟨1, ![2048]⟩
abbrev S_ : Shape := ⟨0, ![]⟩
abbrev S4x10x8x1536 : Shape := ⟨4, ![4, 10, 8, 1536]⟩
abbrev S4x8x6x2048 : Shape := ⟨4, ![4, 8, 6, 2048]⟩
abbrev S4x8x6x1x1536 : Shape := ⟨5, ![4, 8, 6, 1, 1536]⟩
abbrev S2048x1x1x1536 : Shape := ⟨4, ![2048, 1, 1, 1536]⟩
abbrev S2048x1536 : Shape := ⟨2, ![2048, 1536]⟩
abbrev S1x1x1x2048x1536 : Shape := ⟨5, ![1, 1, 1, 2048, 1536]⟩
abbrev S4x8x6x2048x1536 : Shape := ⟨5, ![4, 8, 6, 2048, 1536]⟩
abbrev S4x10x8 : Shape := ⟨3, ![4, 10, 8]⟩
abbrev S4x8x6 : Shape := ⟨3, ![4, 8, 6]⟩
abbrev S4x8x6x1 : Shape := ⟨4, ![4, 8, 6, 1]⟩
abbrev S1x1x1x2048 : Shape := ⟨4, ![1, 1, 1, 2048]⟩

abbrev nBuf : Space → Nat
  | .hbm => 255
  | .vmem => 0
  | .smem => 0
  | _ => 0

abbrev hbmTy0_0 (i : Nat) : BufTy := match i % 128 with
  | 0 => ⟨S4x8x6x1536, .i8⟩
  | 1 => ⟨S1, .i32⟩
  | 2 => ⟨S2048x3x3x1536, .i8⟩
  | 3 => ⟨S1, .i32⟩
  | 4 => ⟨S2048, .i32⟩
  | 5 => ⟨S1, .i32⟩
  | 6 => ⟨S1, .i32⟩
  | 7 => ⟨S1, .i32⟩
  | 8 => ⟨S4x8x6x1536, .i32⟩
  | 9 => ⟨S_, .i32⟩
  | 10 => ⟨S4x8x6x1536, .i32⟩
  | 11 => ⟨S4x8x6x1536, .i32⟩
  | 12 => ⟨S4x8x6x1536, .i8⟩
  | 13 => ⟨S2048x3x3x1536, .i32⟩
  | 14 => ⟨S_, .i32⟩
  | 15 => ⟨S2048x3x3x1536, .i32⟩
  | 16 => ⟨S2048x3x3x1536, .i32⟩
  | 17 => ⟨S2048x3x3x1536, .i8⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i8⟩
  | 25 => ⟨S4x10x8x1536, .i8⟩
  | 26 => ⟨S_, .i32⟩
  | 27 => ⟨S4x8x6x2048, .i32⟩
  | 28 => ⟨S4x8x6x1536, .i8⟩
  | 29 => ⟨S4x8x6x1536, .i32⟩
  | 30 => ⟨S4x8x6x1x1536, .i32⟩
  | 31 => ⟨S2048x3x3x1536, .i32⟩
  | 32 => ⟨S2048x1x1x1536, .i32⟩
  | 33 => ⟨S2048x1536, .i32⟩
  | 34 => ⟨S1x1x1x2048x1536, .i32⟩
  | 35 => ⟨S4x8x6x2048x1536, .i32⟩
  | 36 => ⟨S4x8x6x2048x1536, .i32⟩
  | 37 => ⟨S4x8x6x2048x1536, .i32⟩
  | 38 => ⟨S_, .i32⟩
  | 39 => ⟨S4x8x6x2048, .i32⟩
  | 40 => ⟨S4x8x6x2048, .i32⟩
  | 41 => ⟨S4x8x6x1536, .i8⟩
  | 42 => ⟨S4x8x6x1536, .i32⟩
  | 43 => ⟨S4x8x6x1x1536, .i32⟩
  | 44 => ⟨S2048x3x3x1536, .i32⟩
  | 45 => ⟨S2048x1x1x1536, .i32⟩
  | 46 => ⟨S2048x1536, .i32⟩
  | 47 => ⟨S1x1x1x2048x1536, .i32⟩
  | 48 => ⟨S4x8x6x2048x1536, .i32⟩
  | 49 => ⟨S4x8x6x2048x1536, .i32⟩
  | 50 => ⟨S4x8x6x2048x1536, .i32⟩
  | 51 => ⟨S_, .i32⟩
  | 52 => ⟨S4x8x6x2048, .i32⟩
  | 53 => ⟨S4x8x6x2048, .i32⟩
  | 54 => ⟨S4x8x6x1536, .i8⟩
  | 55 => ⟨S4x8x6x1536, .i32⟩
  | 56 => ⟨S4x8x6x1x1536, .i32⟩
  | 57 => ⟨S2048x3x3x1536, .i32⟩
  | 58 => ⟨S2048x1x1x1536, .i32⟩
  | 59 => ⟨S2048x1536, .i32⟩
  | 60 => ⟨S1x1x1x2048x1536, .i32⟩
  | 61 => ⟨S4x8x6x2048x1536, .i32⟩
  | 62 => ⟨S4x8x6x2048x1536, .i32⟩
  | 63 => ⟨S4x8x6x2048x1536, .i32⟩
  | 64 => ⟨S_, .i32⟩
  | 65 => ⟨S4x8x6x2048, .i32⟩
  | 66 => ⟨S4x8x6x2048, .i32⟩
  | 67 => ⟨S4x8x6x1536, .i8⟩
  | 68 => ⟨S4x8x6x1536, .i32⟩
  | 69 => ⟨S4x8x6x1x1536, .i32⟩
  | 70 => ⟨S2048x3x3x1536, .i32⟩
  | 71 => ⟨S2048x1x1x1536, .i32⟩
  | 72 => ⟨S2048x1536, .i32⟩
  | 73 => ⟨S1x1x1x2048x1536, .i32⟩
  | 74 => ⟨S4x8x6x2048x1536, .i32⟩
  | 75 => ⟨S4x8x6x2048x1536, .i32⟩
  | 76 => ⟨S4x8x6x2048x1536, .i32⟩
  | 77 => ⟨S_, .i32⟩
  | 78 => ⟨S4x8x6x2048, .i32⟩
  | 79 => ⟨S4x8x6x2048, .i32⟩
  | 80 => ⟨S4x8x6x1536, .i8⟩
  | 81 => ⟨S4x8x6x1536, .i32⟩
  | 82 => ⟨S4x8x6x1x1536, .i32⟩
  | 83 => ⟨S2048x3x3x1536, .i32⟩
  | 84 => ⟨S2048x1x1x1536, .i32⟩
  | 85 => ⟨S2048x1536, .i32⟩
  | 86 => ⟨S1x1x1x2048x1536, .i32⟩
  | 87 => ⟨S4x8x6x2048x1536, .i32⟩
  | 88 => ⟨S4x8x6x2048x1536, .i32⟩
  | 89 => ⟨S4x8x6x2048x1536, .i32⟩
  | 90 => ⟨S_, .i32⟩
  | 91 => ⟨S4x8x6x2048, .i32⟩
  | 92 => ⟨S4x8x6x2048, .i32⟩
  | 93 => ⟨S4x8x6x1536, .i8⟩
  | 94 => ⟨S4x8x6x1536, .i32⟩
  | 95 => ⟨S4x8x6x1x1536, .i32⟩
  | 96 => ⟨S2048x3x3x1536, .i32⟩
  | 97 => ⟨S2048x1x1x1536, .i32⟩
  | 98 => ⟨S2048x1536, .i32⟩
  | 99 => ⟨S1x1x1x2048x1536, .i32⟩
  | 100 => ⟨S4x8x6x2048x1536, .i32⟩
  | 101 => ⟨S4x8x6x2048x1536, .i32⟩
  | 102 => ⟨S4x8x6x2048x1536, .i32⟩
  | 103 => ⟨S_, .i32⟩
  | 104 => ⟨S4x8x6x2048, .i32⟩
  | 105 => ⟨S4x8x6x2048, .i32⟩
  | 106 => ⟨S4x8x6x1536, .i8⟩
  | 107 => ⟨S4x8x6x1536, .i32⟩
  | 108 => ⟨S4x8x6x1x1536, .i32⟩
  | 109 => ⟨S2048x3x3x1536, .i32⟩
  | 110 => ⟨S2048x1x1x1536, .i32⟩
  | 111 => ⟨S2048x1536, .i32⟩
  | 112 => ⟨S1x1x1x2048x1536, .i32⟩
  | 113 => ⟨S4x8x6x2048x1536, .i32⟩
  | 114 => ⟨S4x8x6x2048x1536, .i32⟩
  | 115 => ⟨S4x8x6x2048x1536, .i32⟩
  | 116 => ⟨S_, .i32⟩
  | 117 => ⟨S4x8x6x2048, .i32⟩
  | 118 => ⟨S4x8x6x2048, .i32⟩
  | 119 => ⟨S4x8x6x1536, .i8⟩
  | 120 => ⟨S4x8x6x1536, .i32⟩
  | 121 => ⟨S4x8x6x1x1536, .i32⟩
  | 122 => ⟨S2048x3x3x1536, .i32⟩
  | 123 => ⟨S2048x1x1x1536, .i32⟩
  | 124 => ⟨S2048x1536, .i32⟩
  | 125 => ⟨S1x1x1x2048x1536, .i32⟩
  | 126 => ⟨S4x8x6x2048x1536, .i32⟩
  | 127 => ⟨S4x8x6x2048x1536, .i32⟩
  | _ => ⟨S4x8x6x1536, .i8⟩

abbrev hbmTy0_1 (i : Nat) : BufTy := match i % 128 with
  | 0 => ⟨S4x8x6x2048x1536, .i32⟩
  | 1 => ⟨S_, .i32⟩
  | 2 => ⟨S4x8x6x2048, .i32⟩
  | 3 => ⟨S4x8x6x2048, .i32⟩
  | 4 => ⟨S4x8x6x1536, .i8⟩
  | 5 => ⟨S4x8x6x1536, .i32⟩
  | 6 => ⟨S4x8x6x1x1536, .i32⟩
  | 7 => ⟨S2048x3x3x1536, .i32⟩
  | 8 => ⟨S2048x1x1x1536, .i32⟩
  | 9 => ⟨S2048x1536, .i32⟩
  | 10 => ⟨S1x1x1x2048x1536, .i32⟩
  | 11 => ⟨S4x8x6x2048x1536, .i32⟩
  | 12 => ⟨S4x8x6x2048x1536, .i32⟩
  | 13 => ⟨S4x8x6x2048x1536, .i32⟩
  | 14 => ⟨S_, .i32⟩
  | 15 => ⟨S4x8x6x2048, .i32⟩
  | 16 => ⟨S4x8x6x2048, .i32⟩
  | 17 => ⟨S4x10x8x1536, .i32⟩
  | 18 => ⟨S_, .i32⟩
  | 19 => ⟨S4x10x8, .i32⟩
  | 20 => ⟨S_, .i32⟩
  | 21 => ⟨S4x8x6, .i32⟩
  | 22 => ⟨S2048x3x3x1536, .i32⟩
  | 23 => ⟨S_, .i32⟩
  | 24 => ⟨S2048, .i32⟩
  | 25 => ⟨S4x8x6x1, .i32⟩
  | 26 => ⟨S4x8x6x1, .i32⟩
  | 27 => ⟨S4x8x6x1, .i32⟩
  | 28 => ⟨S4x8x6x2048, .i32⟩
  | 29 => ⟨S4x8x6x2048, .i32⟩
  | 30 => ⟨S2048, .i32⟩
  | 31 => ⟨S2048, .i32⟩
  | 32 => ⟨S1x1x1x2048, .i32⟩
  | 33 => ⟨S4x8x6x2048, .i32⟩
  | 34 => ⟨S4x8x6x2048, .i32⟩
  | 35 => ⟨S_, .i32⟩
  | 36 => ⟨S_, .i32⟩
  | 37 => ⟨S_, .i32⟩
  | 38 => ⟨S4x8x6x2048, .i32⟩
  | 39 => ⟨S4x8x6x2048, .i32⟩
  | 40 => ⟨S1x1x1x2048, .i32⟩
  | 41 => ⟨S4x8x6x2048, .i32⟩
  | 42 => ⟨S4x8x6x2048, .i32⟩
  | 43 => ⟨S_, .i32⟩
  | 44 => ⟨S_, .i32⟩
  | 45 => ⟨S4x8x6x2048, .i32⟩
  | 46 => ⟨S4x8x6x2048, .i32⟩
  | 47 => ⟨S_, .i32⟩
  | 48 => ⟨S4x8x6x2048, .i32⟩
  | 49 => ⟨S4x8x6x2048, .i32⟩
  | 50 => ⟨S_, .i32⟩
  | 51 => ⟨S_, .i32⟩
  | 52 => ⟨S_, .i32⟩
  | 53 => ⟨S_, .i32⟩
  | 54 => ⟨S4x8x6x2048, .i32⟩
  | 55 => ⟨S4x8x6x2048, .i32⟩
  | 56 => ⟨S4x8x6x2048, .i32⟩
  | 57 => ⟨S4x8x6x2048, .i32⟩
  | 58 => ⟨S4x8x6x2048, .i32⟩
  | 59 => ⟨S4x8x6x2048, .i32⟩
  | 60 => ⟨S4x8x6x2048, .i32⟩
  | 61 => ⟨S_, .i32⟩
  | 62 => ⟨S4x8x6x2048, .i32⟩
  | 63 => ⟨S4x8x6x2048, .i32⟩
  | 64 => ⟨S_, .i32⟩
  | 65 => ⟨S4x8x6x2048, .i32⟩
  | 66 => ⟨S4x8x6x2048, .i32⟩
  | 67 => ⟨S_, .i32⟩
  | 68 => ⟨S4x8x6x2048, .i32⟩
  | 69 => ⟨S4x8x6x2048, .i32⟩
  | 70 => ⟨S4x8x6x2048, .i32⟩
  | 71 => ⟨S_, .i32⟩
  | 72 => ⟨S4x8x6x2048, .i32⟩
  | 73 => ⟨S4x8x6x2048, .i32⟩
  | 74 => ⟨S4x8x6x2048, .i32⟩
  | 75 => ⟨S4x8x6x2048, .i32⟩
  | 76 => ⟨S_, .i32⟩
  | 77 => ⟨S4x8x6x2048, .i32⟩
  | 78 => ⟨S4x8x6x2048, .i32⟩
  | 79 => ⟨S_, .i32⟩
  | 80 => ⟨S4x8x6x2048, .i32⟩
  | 81 => ⟨S4x8x6x2048, .i32⟩
  | 82 => ⟨S4x8x6x2048, .i32⟩
  | 83 => ⟨S_, .i32⟩
  | 84 => ⟨S4x8x6x2048, .i32⟩
  | 85 => ⟨S4x8x6x2048, .i32⟩
  | 86 => ⟨S4x8x6x2048, .i32⟩
  | 87 => ⟨S_, .i32⟩
  | 88 => ⟨S4x8x6x2048, .i32⟩
  | 89 => ⟨S4x8x6x2048, .i32⟩
  | 90 => ⟨S_, .i32⟩
  | 91 => ⟨S4x8x6x2048, .i32⟩
  | 92 => ⟨S4x8x6x2048, .i32⟩
  | 93 => ⟨S4x8x6x2048, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S4x8x6x2048, .i32⟩
  | 101 => ⟨S4x8x6x2048, .i32⟩
  | 102 => ⟨S_, .i32⟩
  | 103 => ⟨S_, .i32⟩
  | 104 => ⟨S_, .i32⟩
  | 105 => ⟨S4x8x6x2048, .i32⟩
  | 106 => ⟨S4x8x6x2048, .i1⟩
  | 107 => ⟨S4x8x6x2048, .i32⟩
  | 108 => ⟨S4x8x6x2048, .i32⟩
  | 109 => ⟨S4x8x6x2048, .i32⟩
  | 110 => ⟨S4x8x6x2048, .i32⟩
  | 111 => ⟨S4x8x6x2048, .i32⟩
  | 112 => ⟨S4x8x6x2048, .i1⟩
  | 113 => ⟨S4x8x6x2048, .i32⟩
  | 114 => ⟨S4x8x6x2048, .i32⟩
  | 115 => ⟨S_, .i32⟩
  | 116 => ⟨S4x8x6x2048, .i32⟩
  | 117 => ⟨S4x8x6x2048, .i32⟩
  | 118 => ⟨S_, .i32⟩
  | 119 => ⟨S_, .i32⟩
  | 120 => ⟨S_, .i32⟩
  | 121 => ⟨S4x8x6x2048, .i32⟩
  | 122 => ⟨S4x8x6x2048, .i32⟩
  | 123 => ⟨S_, .i32⟩
  | 124 => ⟨S4x8x6x2048, .i32⟩
  | 125 => ⟨S4x8x6x2048, .i32⟩
  | 126 => ⟨S4x8x6x2048, .i8⟩
  | _ => ⟨S4x8x6x1536, .i8⟩

abbrev hbmTy (i : Nat) : BufTy := match i / 128 with
  | 0 => hbmTy0_0 i
  | 1 => hbmTy0_1 i
  | _ => ⟨S4x8x6x1536, .i8⟩

abbrev bufTy : (tb : Table) → Fin (tcTables nBuf tb) → BufTy
  | .hbm, ⟨i, _⟩ => hbmTy i
  | _, _ => ⟨S4x8x6x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_c_9 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_c_10 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_c_11 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_c_12 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_c_13 : Ref sig .tc := ⟨.hbm, 146, rfl⟩
abbrev main_v124 : Ref sig .tc := ⟨.hbm, 147, rfl⟩
abbrev main_c_14 : Ref sig .tc := ⟨.hbm, 148, rfl⟩
abbrev main_v125 : Ref sig .tc := ⟨.hbm, 149, rfl⟩
abbrev main_v126 : Ref sig .tc := ⟨.hbm, 150, rfl⟩
abbrev main_c_15 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_c_16 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_c_17 : Ref sig .tc := ⟨.hbm, 172, rfl⟩
abbrev main_v146 : Ref sig .tc := ⟨.hbm, 173, rfl⟩
abbrev main_v147 : Ref sig .tc := ⟨.hbm, 174, rfl⟩
abbrev main_c_18 : Ref sig .tc := ⟨.hbm, 175, rfl⟩
abbrev main_v148 : Ref sig .tc := ⟨.hbm, 176, rfl⟩
abbrev main_v149 : Ref sig .tc := ⟨.hbm, 177, rfl⟩
abbrev main_c_19 : Ref sig .tc := ⟨.hbm, 178, rfl⟩
abbrev main_v150 : Ref sig .tc := ⟨.hbm, 179, rfl⟩
abbrev main_c_20 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_c_21 : Ref sig .tc := ⟨.hbm, 192, rfl⟩
abbrev main_v162 : Ref sig .tc := ⟨.hbm, 193, rfl⟩
abbrev main_v163 : Ref sig .tc := ⟨.hbm, 194, rfl⟩
abbrev main_c_22 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_c_23 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_c_24 : Ref sig .tc := ⟨.hbm, 204, rfl⟩
abbrev main_v171 : Ref sig .tc := ⟨.hbm, 205, rfl⟩
abbrev main_v172 : Ref sig .tc := ⟨.hbm, 206, rfl⟩
abbrev main_c_25 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_c_26 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_c_27 : Ref sig .tc := ⟨.hbm, 215, rfl⟩
abbrev main_v179 : Ref sig .tc := ⟨.hbm, 216, rfl⟩
abbrev main_v180 : Ref sig .tc := ⟨.hbm, 217, rfl⟩
abbrev main_c_28 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_c_29 : Ref sig .tc := ⟨.hbm, 224, rfl⟩
abbrev main_v186 : Ref sig .tc := ⟨.hbm, 225, rfl⟩
abbrev main_c_30 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_c_31 : Ref sig .tc := ⟨.hbm, 230, rfl⟩
abbrev main_v190 : Ref sig .tc := ⟨.hbm, 231, rfl⟩
abbrev main_c_32 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_c_33 : Ref sig .tc := ⟨.hbm, 246, rfl⟩
abbrev main_c_34 : Ref sig .tc := ⟨.hbm, 247, rfl⟩
abbrev main_call1_v0 : Ref sig .tc := ⟨.hbm, 248, rfl⟩
abbrev main_call1_v1 : Ref sig .tc := ⟨.hbm, 249, rfl⟩
abbrev main_call1_v2 : Ref sig .tc := ⟨.hbm, 250, rfl⟩
abbrev main_call1_v3 : Ref sig .tc := ⟨.hbm, 251, rfl⟩
abbrev main_call1_v4 : Ref sig .tc := ⟨.hbm, 252, rfl⟩
abbrev main_v204 : Ref sig .tc := ⟨.hbm, 253, rfl⟩
abbrev main_v205 : Ref sig .tc := ⟨.hbm, 254, rfl⟩

abbrev nD : Nat := 1
abbrev τ : Topo := Topo.v7x

variable {F : FTy → Type} [FloatOps F]
-- ==== Proof.Points.lean ====
/-
  What one grid point leaves behind, read off its run: the accumulator, the row sums and the output block as expressions of
  the point's input blocks and of what the point before left. The body loads whole buffers, or one of the three
  512-wide pieces of the 1536 input channels, and every store covers its buffer, so the last store is what remains.
-/
module

public import proofs.«01_k».proof.Proof.Gen.KernelIdeal.Frame
public import Idealize.ShloMosaic.Lib.Pipeline.ValueKit
public import Idealize.ShloMosaic.Lib.Tactic

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

/-- The zero offsets of a whole block. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The three 512-channel pieces of a tap's input block. -/
abbrev xPiece0 (x : Vec F S1x192x1536 .bf16) : Vec F S1x192x512 .bf16 :=
  View.ld x (Rect.unit (s := S1x192x1536) ![0, 0, 0] S1x192x512.size inb_S1x192x1536_S1x192x512_0_0_0)
abbrev xPiece1 (x : Vec F S1x192x1536 .bf16) : Vec F S1x192x512 .bf16 :=
  View.ld x (Rect.unit (s := S1x192x1536) ![0, 0, 512] S1x192x512.size inb_S1x192x1536_S1x192x512_0_0_512)
abbrev xPiece2 (x : Vec F S1x192x1536 .bf16) : Vec F S1x192x512 .bf16 :=
  View.ld x (Rect.unit (s := S1x192x1536) ![0, 0, 1024] S1x192x512.size inb_S1x192x1536_S1x192x512_0_0_1024)
/-- The three 512-channel pieces of a tap's weight block. -/
abbrev wPiece0 (w : Vec F S1x512x1536 .i8) : Vec F S1x512x512 .i8 :=
  View.ld w (Rect.unit (s := S1x512x1536) ![0, 0, 0] S1x512x512.size inb_S1x512x1536_S1x512x512_0_0_0)
abbrev wPiece1 (w : Vec F S1x512x1536 .i8) : Vec F S1x512x512 .i8 :=
  View.ld w (Rect.unit (s := S1x512x1536) ![0, 0, 512] S1x512x512.size inb_S1x512x1536_S1x512x512_0_0_512)
abbrev wPiece2 (w : Vec F S1x512x1536 .i8) : Vec F S1x512x512 .i8 :=
  View.ld w (Rect.unit (s := S1x512x1536) ![0, 0, 1024] S1x512x512.size inb_S1x512x1536_S1x512x512_0_0_1024)

/-- The accumulator after a point: the three pieces' products added one after the other. -/
def accStep (x : Vec F S1x192x1536 .bf16) (w : Vec F S1x512x1536 .i8) (acc : Vec F S192x512 .i32) : Vec F S192x512 .i32 :=
  k0_pay15 (wPiece2 w) (xPiece2 x) (k0_pay14 (wPiece1 w) (xPiece1 x) (k0_pay13 (wPiece0 w) (xPiece0 x) acc))

/-- Word 0 of the scalar table, as the body loads it. -/
def scW0 (x : Vec F S4 .i32) : Elt F .i32 :=
  View.ld x (Rect.unit (s := S4) ![0] S1.size inb_S4_S1_0) (Shape.Idx.first (s := S1) (numel1_S1 ▸ Nat.one_pos))
/-- Word 1 of the scalar table, as the body loads it. -/
def scW1 (x : Vec F S4 .i32) : Elt F .i32 :=
  View.ld x (Rect.unit (s := S4) ![1] S1.size inb_S4_S1_1) (Shape.Idx.first (s := S1) (numel1_S1 ▸ Nat.one_pos))
/-- Word 2 of the scalar table, as the body loads it. -/
def scW2 (x : Vec F S4 .i32) : Elt F .i32 :=
  View.ld x (Rect.unit (s := S4) ![2] S1.size inb_S4_S1_2) (Shape.Idx.first (s := S1) (numel1_S1 ▸ Nat.one_pos))
/-- Word 3 of the scalar table, as the body loads it. -/
def scW3 (x : Vec F S4 .i32) : Elt F .i32 :=
  View.ld x (Rect.unit (s := S4) ![3] S1.size inb_S4_S1_3) (Shape.Idx.first (s := S1) (numel1_S1 ▸ Nat.one_pos))

/-- The first column of the row sums. -/
abbrev sCol (s : Vec F S192x128 .f32) : Vec F S192x1 .f32 :=
  View.ld s (Rect.unit (s := S192x128) ![0, 0] S192x1.size inb_S192x128_S192x1_0_0)

/-- The output block the last tap stores, from the scalar table, the bias block, the accumulator and the row sums. -/
def outStep (sc : Vec F S4 .i32) (b : Vec F S1x512 .i32) (acc : Vec F S192x512 .i32) (s : Vec F S192x128 .f32) : Vec F S192x512 .i8 :=
  k0_pay1 (scW2 sc) (scW3 sc) (k0_pay7 (scW0 sc) (scW1 sc) (sCol s) acc b) (k0_pay8 (scW0 sc) (scW1 sc) (sCol s) acc b)
    (k0_pay9 (scW0 sc) (scW1 sc) (sCol s) acc b)

/-- The scalar operand's four words. -/
theorem scW0_eq (x : Vec F S4 .i32) : scW0 x = x (ix1 (0 : Fin 4)) := by
  refine congrArg x (funext fun a => Fin.ext ?_)
  fin_cases a
  rfl
theorem scW1_eq (x : Vec F S4 .i32) : scW1 x = x (ix1 (1 : Fin 4)) := by
  refine congrArg x (funext fun a => Fin.ext ?_)
  fin_cases a
  rfl
theorem scW2_eq (x : Vec F S4 .i32) : scW2 x = x (ix1 (2 : Fin 4)) := by
  refine congrArg x (funext fun a => Fin.ext ?_)
  fin_cases a
  rfl
theorem scW3_eq (x : Vec F S4 .i32) : scW3 x = x (ix1 (3 : Fin 4)) := by
  refine congrArg x (funext fun a => Fin.ext ?_)
  fin_cases a
  rfl

/-- A load of the accumulator's whole buffer reads what the last whole store left. -/
theorem readCov_whole {sp : Space} (v : View sig .tc sp S192x512 .i32) (w : Vec F S192x512 .i32) (L : List (View.Piece (Elt F) S192x512 .i32)) :
    v.readCov ((⟨Rect.unit (s := S192x512) ![0, 0] ![192, 512] inb_S192x512_S192x512_0_0, w⟩ : View.Piece (Elt F) S192x512 .i32) :: L)
      (Rect.unit (s := S192x512) ![0, 0] ![192, 512] inb_S192x512_S192x512_0_0).toLoadRect = w :=
  View.readCov_cons_unit_lit' (S := S192x512) v inb_S192x512_S192x512_0_0 inb_S192x512_S192x512_0_0 w L (by intro a; fin_cases a <;> rfl) (by intro a; fin_cases a <;> rfl)

/-- The same for the row sums' buffer. -/
theorem readCov_rows {sp : Space} (v : View sig .tc sp S192x128 .f32) (w : Vec F S192x128 .f32) (L : List (View.Piece (Elt F) S192x128 .f32)) :
    v.readCov ((⟨Rect.unit (s := S192x128) ![0, 0] ![192, 128] inb_S192x128_S192x128_0_0, w⟩ : View.Piece (Elt F) S192x128 .f32) :: L)
      (Rect.unit (s := S192x128) ![0, 0] ![192, 128] inb_S192x128_S192x128_0_0).toLoadRect = w :=
  View.readCov_cons_unit_lit' (S := S192x128) v inb_S192x128_S192x128_0_0 inb_S192x128_S192x128_0_0 w L (by intro a; fin_cases a <;> rfl) (by intro a; fin_cases a <;> rfl)

/-- A load of the row sums' first column reads the column of what the last whole store left. -/
theorem readCov_col {sp : Space} (v : View sig .tc sp S192x128 .f32) (w : Vec F S192x128 .f32) (L : List (View.Piece (Elt F) S192x128 .f32)) :
    v.readCov ((⟨Rect.unit (s := S192x128) ![0, 0] ![192, 128] inb_S192x128_S192x128_0_0, w⟩ : View.Piece (Elt F) S192x128 .f32) :: L)
      (Rect.unit (s := S192x128) ![0, 0] ![192, 1] inb_S192x128_S192x1_0_0).toLoadRect = sCol w := by
  rw [View.readCov_eq_canon_ld _ _ _ (fun y => ⟨_, List.mem_cons_self, View.mem_set_unit_zero hz2 inb_S192x128_S192x128_0_0 y⟩),
    View.canon_cons_unit_zero (S := S192x128) hz2]

/-- What a list of stores leaves when its last one covers the accumulator. -/
theorem canon_whole (w : Vec F S192x512 .i32) (L : List (View.Piece (Elt F) S192x512 .i32)) :
    View.canon ((⟨Rect.unit (s := S192x512) ![0, 0] ![192, 512] inb_S192x512_S192x512_0_0, w⟩ : View.Piece (Elt F) S192x512 .i32) :: L) = w :=
  View.canon_cons_unit_zero (S := S192x512) hz2 inb_S192x512_S192x512_0_0 w L

/-- The same for the row sums. -/
theorem canon_rows (w : Vec F S192x128 .f32) (L : List (View.Piece (Elt F) S192x128 .f32)) :
    View.canon ((⟨Rect.unit (s := S192x128) ![0, 0] ![192, 128] inb_S192x128_S192x128_0_0, w⟩ : View.Piece (Elt F) S192x128 .f32) :: L) = w :=
  View.canon_cons_unit_zero (S := S192x128) hz2 inb_S192x128_S192x128_0_0 w L

/-- The same for the output block. -/
theorem canon_block (w : Vec F S192x512 .i8) (L : List (View.Piece (Elt F) S192x512 .i8)) :
    View.canon ((⟨Rect.unit (s := S192x512) ![0, 0] ![192, 512] inb_S192x512_S192x512_0_0, w⟩ : View.Piece (Elt F) S192x512 .i8) :: L) = w :=
  View.canon_cons_unit_zero (S := S192x512) hz2 inb_S192x512_S192x512_0_0 w L

section
variable (c : Dev nD) (i : grid0.Coords) (arg2 : Memref sig .tc .smem S4 .i32) (harg2 : arg2.IsWhole)
  (arg3 : Memref sig .tc .vmem S1x192x1536 .bf16) (harg3 : arg3.IsWhole) (arg4 : Memref sig .tc .vmem S1x512x1536 .i8) (harg4 : arg4.IsWhole)
  (arg5 : Memref sig .tc .vmem S1x512 .i32) (harg5 : arg5.IsWhole) (arg6 : Memref sig .tc .vmem S192x512 .i8) (harg6 : arg6.IsWhole)
  (arg7 : Memref sig .tc .vmem S192x512 .i32) (harg7 : arg7.IsWhole) (arg8 : Memref sig .tc .vmem S192x128 .f32) (harg8 : arg8.IsWhole)
  (x0 : Vec F S4 .i32) (x1 : Vec F S1x192x1536 .bf16) (x2 : Vec F S1x512x1536 .i8) (x3 : Vec F S1x512 .i32)
  (xs0 : Vec F S192x512 .i32) (xs1 : Vec F S192x128 .f32)
theorem acc_A (hc0 : cond0_0 i) (hc1 : cond0_1 i) (hc2 : cond0_2 i) (hc3 : ¬cond0_3 i) :
    sout0_A_0 c i arg2 harg2 arg3 harg3 arg4 harg4 arg5 harg5 arg6 harg6 arg7 harg7 arg8 harg8 hc0 hc1 hc2 hc3 x0 x1 x2 x3 = accStep x1 x2 (k0_pay10 : Vec F S192x512 .i32) := by
  unfold sout0_A_0
  rw [View.read_writes_eq_canon _ _ _ (scover0_A_0 c i arg2 harg2 arg3 harg3 arg4 harg4 arg5 harg5 arg6 harg6 arg7 harg7 arg8 harg8 hc0 hc1 hc2 hc3 x0 x1 x2 x3)]
  unfold kernelRun0_A
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  rfl

/-- At the first point of the grid: the row sums. -/
theorem rows_A (hc0 : cond0_0 i) (hc1 : cond0_1 i) (hc2 : cond0_2 i) (hc3 : ¬cond0_3 i) :
    sout0_A_1 c i arg2 harg2 arg3 harg3 arg4 harg4 arg5 harg5 arg6 harg6 arg7 harg7 arg8 harg8 hc0 hc1 hc2 hc3 x0 x1 x2 x3 = (k0_pay12 x1 (k0_pay11 : Vec F S192x128 .f32)) := by
  unfold sout0_A_1
  rw [View.read_writes_eq_canon _ _ _ (scover0_A_1 c i arg2 harg2 arg3 harg3 arg4 harg4 arg5 harg5 arg6 harg6 arg7 harg7 arg8 harg8 hc0 hc1 hc2 hc3 x0 x1 x2 x3)]
  unfold kernelRun0_A
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]

/-- At a later tap of the first channel block: the accumulator. -/
theorem acc_B (hc0 : ¬cond0_0 i) (hc1 : ¬cond0_1 i) (hc2 : cond0_2 i) (hc3 : ¬cond0_3 i) :
    sout0_B_0 c i arg2 harg2 arg3 harg3 arg4 harg4 arg5 harg5 arg6 harg6 arg7 harg7 arg8 harg8 hc0 hc1 hc2 hc3 x0 x1 x2 x3 xs0 xs1 = accStep x1 x2 xs0 := by
  unfold sout0_B_0
  rw [View.read_writes_eq_canon _ _ _ (scover0_B_0 c i arg2 harg2 arg3 harg3 arg4 harg4 arg5 harg5 arg6 harg6 arg7 harg7 arg8 harg8 hc0 hc1 hc2 hc3 x0 x1 x2 x3 xs0 xs1)]
  unfold kernelRun0_B
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  rfl

/-- At a later tap of the first channel block: the row sums. -/
theorem rows_B (hc0 : ¬cond0_0 i) (hc1 : ¬cond0_1 i) (hc2 : cond0_2 i) (hc3 : ¬cond0_3 i) :
    sout0_B_1 c i arg2 harg2 arg3 harg3 arg4 harg4 arg5 harg5 arg6 harg6 arg7 harg7 arg8 harg8 hc0 hc1 hc2 hc3 x0 x1 x2 x3 xs0 xs1 = (k0_pay12 x1 xs1) := by
  unfold sout0_B_1
  rw [View.read_writes_eq_canon _ _ _ (scover0_B_1 c i arg2 harg2 arg3 harg3 arg4 harg4 arg5 harg5 arg6 harg6 arg7 harg7 arg8 harg8 hc0 hc1 hc2 hc3 x0 x1 x2 x3 xs0 xs1)]
  unfold kernelRun0_B
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]

/-- At the last tap of the first channel block: the accumulator. -/
theorem acc_C (hc0 : ¬cond0_0 i) (hc1 : ¬cond0_1 i) (hc2 : cond0_2 i) (hc3 : cond0_3 i) :
    sout0_C_0 c i arg2 harg2 arg3 harg3 arg4 harg4 arg5 harg5 arg6 harg6 arg7 harg7 arg8 harg8 hc0 hc1 hc2 hc3 x0 x1 x2 x3 xs0 xs1 = accStep x1 x2 xs0 := by
  unfold sout0_C_0
  rw [View.read_writes_eq_canon _ _ _ (scover0_C_0 c i arg2 harg2 arg3 harg3 arg4 harg4 arg5 harg5 arg6 harg6 arg7 harg7 arg8 harg8 hc0 hc1 hc2 hc3 x0 x1 x2 x3 xs0 xs1)]
  unfold kernelRun0_C
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  rfl

/-- At the last tap of the first channel block: the row sums. -/
theorem rows_C (hc0 : ¬cond0_0 i) (hc1 : ¬cond0_1 i) (hc2 : cond0_2 i) (hc3 : cond0_3 i) :
    sout0_C_1 c i arg2 harg2 arg3 harg3 arg4 harg4 arg5 harg5 arg6 harg6 arg7 harg7 arg8 harg8 hc0 hc1 hc2 hc3 x0 x1 x2 x3 xs0 xs1 = (k0_pay12 x1 xs1) := by
  unfold sout0_C_1
  rw [View.read_writes_eq_canon _ _ _ (scover0_C_1 c i arg2 harg2 arg3 harg3 arg4 harg4 arg5 harg5 arg6 harg6 arg7 harg7 arg8 harg8 hc0 hc1 hc2 hc3 x0 x1 x2 x3 xs0 xs1)]
  unfold kernelRun0_C
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]

/-- At the last tap of the first channel block: the stored result. -/
theorem out_C (hc0 : ¬cond0_0 i) (hc1 : ¬cond0_1 i) (hc2 : cond0_2 i) (hc3 : cond0_3 i) :
    out0_C_4 c i arg2 harg2 arg3 harg3 arg4 harg4 arg5 harg5 arg6 harg6 arg7 harg7 arg8 harg8 hc0 hc1 hc2 hc3 x0 x1 x2 x3 xs0 xs1 = outStep x0 x3 (accStep x1 x2 xs0) (k0_pay12 x1 xs1) := by
  unfold out0_C_4
  rw [View.read_writes_eq_canon _ _ _ (cover0_C_4 c i arg2 harg2 arg3 harg3 arg4 harg4 arg5 harg5 arg6 harg6 arg7 harg7 arg8 harg8 hc0 hc1 hc2 hc3 x0 x1 x2 x3 xs0 xs1)]
  unfold kernelRun0_C
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  unfold outStep accStep
  rfl

/-- At the first tap of a later channel block: the accumulator. -/
theorem acc_D (hc0 : cond0_0 i) (hc1 : ¬cond0_1 i) (hc2 : ¬cond0_2 i) (hc3 : ¬cond0_3 i) :
    sout0_D_0 c i arg2 harg2 arg3 harg3 arg4 harg4 arg5 harg5 arg6 harg6 arg7 harg7 arg8 harg8 hc0 hc1 hc2 hc3 x0 x1 x2 x3 xs1 = accStep x1 x2 (k0_pay10 : Vec F S192x512 .i32) := by
  unfold sout0_D_0
  rw [View.read_writes_eq_canon _ _ _ (scover0_D_0 c i arg2 harg2 arg3 harg3 arg4 harg4 arg5 harg5 arg6 harg6 arg7 harg7 arg8 harg8 hc0 hc1 hc2 hc3 x0 x1 x2 x3 xs1)]
  unfold kernelRun0_D
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  rfl

/-- At a middle tap of a later channel block: the accumulator. -/
theorem acc_E (hc0 : ¬cond0_0 i) (hc1 : ¬cond0_1 i) (hc2 : ¬cond0_2 i) (hc3 : ¬cond0_3 i) :
    sout0_E_0 c i arg2 harg2 arg3 harg3 arg4 harg4 arg5 harg5 arg6 harg6 arg7 harg7 arg8 harg8 hc0 hc1 hc2 hc3 x0 x1 x2 x3 xs0 xs1 = accStep x1 x2 xs0 := by
  unfold sout0_E_0
  rw [View.read_writes_eq_canon _ _ _ (scover0_E_0 c i arg2 harg2 arg3 harg3 arg4 harg4 arg5 harg5 arg6 harg6 arg7 harg7 arg8 harg8 hc0 hc1 hc2 hc3 x0 x1 x2 x3 xs0 xs1)]
  unfold kernelRun0_E
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  rfl

/-- At the last tap of a later channel block: the accumulator. -/
theorem acc_F (hc0 : ¬cond0_0 i) (hc1 : ¬cond0_1 i) (hc2 : ¬cond0_2 i) (hc3 : cond0_3 i) :
    sout0_F_0 c i arg2 harg2 arg3 harg3 arg4 harg4 arg5 harg5 arg6 harg6 arg7 harg7 arg8 harg8 hc0 hc1 hc2 hc3 x0 x1 x2 x3 xs0 xs1 = accStep x1 x2 xs0 := by
  unfold sout0_F_0
  rw [View.read_writes_eq_canon _ _ _ (scover0_F_0 c i arg2 harg2 arg3 harg3 arg4 harg4 arg5 harg5 arg6 harg6 arg7 harg7 arg8 harg8 hc0 hc1 hc2 hc3 x0 x1 x2 x3 xs0 xs1)]
  unfold kernelRun0_F
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  rfl

/-- At the last tap of a later channel block: the stored result. -/
theorem out_F (hc0 : ¬cond0_0 i) (hc1 : ¬cond0_1 i) (hc2 : ¬cond0_2 i) (hc3 : cond0_3 i) :
    out0_F_4 c i arg2 harg2 arg3 harg3 arg4 harg4 arg5 harg5 arg6 harg6 arg7 harg7 arg8 harg8 hc0 hc1 hc2 hc3 x0 x1 x2 x3 xs0 xs1 = outStep x0 x3 (accStep x1 x2 xs0) xs1 := by
  unfold out0_F_4
  rw [View.read_writes_eq_canon _ _ _ (cover0_F_4 c i arg2 harg2 arg3 harg3 arg4 harg4 arg5 harg5 arg6 harg6 arg7 harg7 arg8 harg8 hc0 hc1 hc2 hc3 x0 x1 x2 x3 xs0 xs1)]
  unfold kernelRun0_F
  dsimp only
  sl_unfold_words
  simp only [canon_whole, canon_rows, canon_block, readCov_col, readCov_whole, readCov_rows, View.readAt_eq_ld, harg2.read_unread, harg3.read_unread, harg4.read_unread, harg5.read_unread, harg7.read_unread, harg8.read_unread,
    View.ld_unit_zero (S := S192x512) hz2, View.ld_unit_zero (S := S192x128) hz2,
    View.ld_unit_zero (S := S1x192x1536) hz3, View.ld_unit_zero (S := S1x512) hz2]
  unfold outStep accStep
  rfl

end

end Cert.KernelIdeal.Value

end
-- ==== Proof.Words.lean ====
/- The integer and rounding facts the value proof rests on: the requantization of an accumulator word (the kernel's spelling
   and the reference's agree word for word), sums of integers read as words and as reals, and the rounding of an integer. -/
module

public import Idealize.ShloMosaic.PureOps
public import Idealize.ShloMosaic.PureOps.Ideal.Laws
public import Idealize.ShloMosaic.PureOps.Reduce
public import Mathlib.Data.BitVec
public import Mathlib.Algebra.Order.BigOperators.Group.Finset
public import Mathlib.Algebra.BigOperators.Fin
public import Mathlib.Data.Int.ModEq

@[expose] public section

noncomputable section

namespace Cert.Qconv

open Idealize.ShloMosaic

/-! ### Requantization -/

/-- At 32 bits a shift does not depend on the unit that computes it. -/
theorem shrsi_unit (u : ArithUnit) (x y : BitVec 32) : IntOp.shrsi u x y = IntOp.shrsi .vector x y := by
  cases u <;> simp [IntOp.shrsi, IntOp.cornerWord]
theorem shrui_unit (u : ArithUnit) (x y : BitVec 32) : IntOp.shrui u x y = IntOp.shrui .vector x y := by
  cases u <;> simp [IntOp.shrui, IntOp.cornerWord]
theorem shli_unit (u : ArithUnit) (x y : BitVec 32) : IntOp.shli u x y = IntOp.shli .vector x y := by
  cases u <;> simp [IntOp.shli, IntOp.cornerWord]

/-- The high halfword of a word: an arithmetic shift masked to sixteen bits is the logical shift. -/
theorem high_half (p : BitVec 32) :
    IntOp.andi (IntOp.shrsi .vector p 16#32) 65535#32 = IntOp.shrui .vector p 16#32 := by
  have h : (16#32).toNat < 32 := by decide
  simp only [IntOp.andi, IntOp.shrsi, IntOp.shrui, if_pos h]
  ext i hi
  have hm : (65535#32)[i] = decide (i < 16) := by
    have := (by decide +kernel : ∀ k : Fin 32, (65535#32).getLsbD k.val = decide (k.val < 16)) ⟨i, hi⟩
    rw [← BitVec.getLsbD_eq_getElem]
    exact this
  have e1 : (p.sshiftRight' 16#32)[i] = if h : 16 + i < 32 then p[16 + i] else p.msb := by
    show (p.sshiftRight 16)[i] = _
    rw [BitVec.getElem_sshiftRight]
  have e2 : (p >>> 16#32)[i] = p.getLsbD (16 + i) := by
    show (p >>> 16)[i] = _
    rw [BitVec.getElem_ushiftRight]
  rw [BitVec.getElem_and, e1, e2, hm]
  by_cases h2 : i < 16
  · have h3 : 16 + i < 32 := by omega
    simp [h2, h3, BitVec.getLsbD_eq_getElem h3]
  · simp [h2, BitVec.getLsbD_of_ge p (16 + i) (by omega)]

/-- The rounding doubling high product of `a` and `m`, given the high halfword of the product of their low halves. -/
def highMulOf (ll a m : BitVec 32) : BitVec 32 :=
  let ah := IntOp.shrsi .vector a 16#32
  let al := IntOp.andi a 65535#32
  let mh := IntOp.shrsi .vector m 16#32
  let ml := IntOp.andi m 65535#32
  IntOp.addi
    (IntOp.muli 2#32 (IntOp.addi (IntOp.addi (IntOp.muli ah mh) (IntOp.shrsi .vector (IntOp.muli al mh) 16#32))
      (IntOp.shrsi .vector (IntOp.muli ah ml) 16#32)))
    (IntOp.shrsi .vector (IntOp.addi (IntOp.addi (IntOp.addi (IntOp.andi (IntOp.muli al mh) 65535#32)
      (IntOp.andi (IntOp.muli ah ml) 65535#32)) ll) 16384#32) 15#32)

/-- The rounding division of `q` by the power of two `2 ^ e`, the output zero point added, the result clipped to a byte. -/
def roundClip (q e zo : BitVec 32) : BitVec 8 :=
  let mask := IntOp.subi (IntOp.shli .vector 1#32 e) 1#32
  BitVec.setWidth 8 (IntOp.minsi 255#32 (IntOp.maxsi 0#32
    (IntOp.addi (IntOp.addi (IntOp.shrsi .vector q e)
      (BitVec.setWidth 32 (IntOp.cmpi .sgt (IntOp.andi q mask)
        (IntOp.addi (IntOp.shrsi .vector mask 1#32) (BitVec.setWidth 32 (IntOp.cmpi .slt q 0#32))))))
      zo)))

/-- The requantization of an accumulator word `a` by multiplier `m`, right shift `e` and output zero point `zo`. -/
def requant (a m e zo : BitVec 32) : BitVec 8 :=
  roundClip (highMulOf (IntOp.shrui .vector (IntOp.muli (IntOp.andi a 65535#32) (IntOp.andi m 65535#32)) 16#32) a m) e zo

/-! ### Integers as words and as reals -/

/-- The word of a signed sum of products of words is the sum of the words' products. -/
theorem ofInt_sum_mul {ι : Type*} (s : Finset ι) (f g : ι → BitVec 32) :
    BitVec.ofInt 32 (∑ k ∈ s, (f k).toInt * (g k).toInt) = ∑ k ∈ s, f k * g k := by
  induction s using Finset.cons_induction with
  | empty => simp
  | cons a s ha ih => rw [Finset.sum_cons, Finset.sum_cons, BitVec.ofInt_add, ih, BitVec.ofInt_mul, BitVec.ofInt_toInt, BitVec.ofInt_toInt]

/-- The word of a signed sum of words is the sum of the words. -/
theorem ofInt_sum {ι : Type*} (s : Finset ι) (f : ι → BitVec 32) :
    BitVec.ofInt 32 (∑ k ∈ s, (f k).toInt) = ∑ k ∈ s, f k := by
  induction s using Finset.cons_induction with
  | empty => simp
  | cons a s ha ih => rw [Finset.sum_cons, Finset.sum_cons, BitVec.ofInt_add, ih, BitVec.ofInt_toInt]

/-- An extended-real sum of integers is the integer sum. -/
theorem coe_sum_int {ι : Type*} (s : Finset ι) (z : ι → ℤ) :
    ∑ k ∈ s, ((z k : ℝ) : EReal) = (((∑ k ∈ s, z k : ℤ) : ℝ) : EReal) := by
  induction s using Finset.cons_induction with
  | empty => simp
  | cons a s ha ih => rw [Finset.sum_cons, Finset.sum_cons, ih, Int.cast_add, EReal.coe_add]

/-- Rounding to even leaves an integer, and its conversion to a word is exact within the signed range. -/
theorem fptosi_round_int (z : ℤ) (h1 : -2 ^ 31 ≤ z) (h2 : z < 2 ^ 31) :
    Ideal.fptosi 32 (Ideal.liftRound Ideal.roundHalfEven ((z : ℝ) : EReal)) = BitVec.ofInt 32 z := by
  have hr : Ideal.roundHalfEven (z : ℝ) = z := by
    unfold Ideal.roundHalfEven
    simp
  rw [Ideal.liftRound_coe, hr]
  unfold Ideal.fptosi
  rw [Ideal.toIntClamped_coe, Int.floor_intCast, Int.ceil_intCast, ite_self]
  congr 1
  norm_num at h1 h2 ⊢
  omega

/-- A host sum of words over a set of axes is the initial word plus the sum over the fiber. -/
theorem reduce_addi {s t u : Shape} {axes : List (Fin s.rank)} (x : s.Idx → BitVec 32) (init : u.Idx → BitVec 32)
    (h : s.ReducesTo axes t) (hu : 0 < u.numel) (j : t.Idx) :
    Host.reduce IntOp.addi x init h hu j = init (Shape.Idx.first hu) + ∑ i ∈ Finset.univ.filter (fun i => h.drop i = j), x i := by
  rw [Host.reduce_eq_fold]
  generalize init (Shape.Idx.first hu) = b
  generalize (Finset.univ.filter fun i => h.drop i = j) = S
  induction S using Finset.cons_induction with
  | empty => simp
  | cons a S ha ih =>
    rw [Finset.fold_cons, ih, Finset.sum_cons]
    show x a + (b + _) = _
    ring

end Cert.Qconv
-- ==== Proof.Prologue.lean ====
/-
  What the kernel's launch finds in its operands: the tapped image, the reordered weights, the four scalars and the bias,
  each read at an index off the arguments.
-/
module

public import Idealize.ShloMosaic.Lib.Pointwise
public import Idealize.ShloMosaic.Lib.Claim
public import Idealize.ShloMosaic.Lib.StableHlo.RunRead
public import proofs.«01_k».proof.Proof.Points
public import proofs.«01_k».proof.Proof.Words

@[expose] public section

set_option maxRecDepth 16384

noncomputable section

namespace Cert.KernelIdeal.Value

open Idealize.ShloMosaic Idealize.ShloMosaic.TcCoe Idealize.SL.Sem
open Cert.KernelIdeal Cert.KernelIdeal.Gen Cert.Qconv
variable (m : (ℓ : Loc nD τ sig) → Buf (Elt Ideal) ℓ)

/-- The result of a nine-operand line, its operands read off the valuation. -/
theorem nary9_result {τ : Topo} {sig : RefSig} {Val : EltTy → Type} {y : Ref sig .tc} (x0 x1 x2 x3 x4 x5 x6 x7 x8 : Ref sig .tc)
    (f : ((k : Fin 9) → ((![x0, x1, x2, x3, x4, x5, x6, x7, x8] : Fin 9 → Ref sig .tc) k).ty.Contents Val) → y.ty.Contents Val) (hxs hy)
    (F : Valuation τ sig Val) :
    (StableHlo.nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
        (Fin.cons (F (Proc.devRef .tc x3)) (Fin.cons (F (Proc.devRef .tc x4)) (Fin.cons (F (Proc.devRef .tc x5))
        (Fin.cons (F (Proc.devRef .tc x6)) (Fin.cons (F (Proc.devRef .tc x7)) (Fin.cons (F (Proc.devRef .tc x8)) (fun i => i.elim0)))))))))) := by
  rw [StableHlo.nary_result]; congr 1; funext k; fin_cases k <;> rfl

/-- The nine shifted slices of the zero-padded image, stacked along a new leading axis. -/
def taps (P : Vec Ideal S4x8x10x1536 .bf16) : Vec Ideal S9x192x1536 .bf16 :=
  concatenate S9x192x1536 0 [
    ⟨S1x192x1536, broadcastInDim S1x192x1536 ![1, 2] bcast_S192x1536_S1x192x1536_1_2 (shapeCast S192x1536 (extractStridedSlice S4x6x8x1536 ![0, 0, 0, 0] P slices_S4x8x10x1536_S4x6x8x1536_0_0_0_0) shapeCasts_S4x6x8x1536_S192x1536)⟩,
    ⟨S1x192x1536, broadcastInDim S1x192x1536 ![1, 2] bcast_S192x1536_S1x192x1536_1_2 (shapeCast S192x1536 (extractStridedSlice S4x6x8x1536 ![0, 1, 0, 0] P slices_S4x8x10x1536_S4x6x8x1536_0_1_0_0) shapeCasts_S4x6x8x1536_S192x1536)⟩,
    ⟨S1x192x1536, broadcastInDim S1x192x1536 ![1, 2] bcast_S192x1536_S1x192x1536_1_2 (shapeCast S192x1536 (extractStridedSlice S4x6x8x1536 ![0, 2, 0, 0] P slices_S4x8x10x1536_S4x6x8x1536_0_2_0_0) shapeCasts_S4x6x8x1536_S192x1536)⟩,
    ⟨S1x192x1536, broadcastInDim S1x192x1536 ![1, 2] bcast_S192x1536_S1x192x1536_1_2 (shapeCast S192x1536 (extractStridedSlice S4x6x8x1536 ![0, 0, 1, 0] P slices_S4x8x10x1536_S4x6x8x1536_0_0_1_0) shapeCasts_S4x6x8x1536_S192x1536)⟩,
    ⟨S1x192x1536, broadcastInDim S1x192x1536 ![1, 2] bcast_S192x1536_S1x192x1536_1_2 (shapeCast S192x1536 (extractStridedSlice S4x6x8x1536 ![0, 1, 1, 0] P slices_S4x8x10x1536_S4x6x8x1536_0_1_1_0) shapeCasts_S4x6x8x1536_S192x1536)⟩,
    ⟨S1x192x1536, broadcastInDim S1x192x1536 ![1, 2] bcast_S192x1536_S1x192x1536_1_2 (shapeCast S192x1536 (extractStridedSlice S4x6x8x1536 ![0, 2, 1, 0] P slices_S4x8x10x1536_S4x6x8x1536_0_2_1_0) shapeCasts_S4x6x8x1536_S192x1536)⟩,
    ⟨S1x192x1536, broadcastInDim S1x192x1536 ![1, 2] bcast_S192x1536_S1x192x1536_1_2 (shapeCast S192x1536 (extractStridedSlice S4x6x8x1536 ![0, 0, 2, 0] P slices_S4x8x10x1536_S4x6x8x1536_0_0_2_0) shapeCasts_S4x6x8x1536_S192x1536)⟩,
    ⟨S1x192x1536, broadcastInDim S1x192x1536 ![1, 2] bcast_S192x1536_S1x192x1536_1_2 (shapeCast S192x1536 (extractStridedSlice S4x6x8x1536 ![0, 1, 2, 0] P slices_S4x8x10x1536_S4x6x8x1536_0_1_2_0) shapeCasts_S4x6x8x1536_S192x1536)⟩,
    ⟨S1x192x1536, broadcastInDim S1x192x1536 ![1, 2] bcast_S192x1536_S1x192x1536_1_2 (shapeCast S192x1536 (extractStridedSlice S4x6x8x1536 ![0, 2, 2, 0] P slices_S4x8x10x1536_S4x6x8x1536_0_2_2_0) shapeCasts_S4x6x8x1536_S192x1536)⟩] concatenates_S1x192x1536_S1x192x1536_S1x192x1536_S1x192x1536_S1x192x1536_S1x192x1536_S1x192x1536_S1x192x1536_S1x192x1536_S9x192x1536_d0

/-- Tap `t` of the stack, read at an output row and channel. -/
theorem taps_apply (P : Vec Ideal S4x8x10x1536 .bf16) (t : Fin 9) (r : Fin 192) (d : Fin 1536) :
    taps P (ix3 t r d) = P (ix4 (⟨r.val / 48, by omega⟩ : Fin 4) (⟨t.val % 3 + r.val / 8 % 6, by omega⟩ : Fin 8)
      (⟨t.val / 3 + r.val % 8, by omega⟩ : Fin 10) d) := by
  fin_cases t
  · show taps P (ix3 (0 : Fin 9) r d) = _
    pointwise [taps]
  · show taps P (ix3 (1 : Fin 9) r d) = _
    pointwise [taps]
  · show taps P (ix3 (2 : Fin 9) r d) = _
    pointwise [taps]
  · show taps P (ix3 (3 : Fin 9) r d) = _
    pointwise [taps]
  · show taps P (ix3 (4 : Fin 9) r d) = _
    pointwise [taps]
  · show taps P (ix3 (5 : Fin 9) r d) = _
    pointwise [taps]
  · show taps P (ix3 (6 : Fin 9) r d) = _
    pointwise [taps]
  · show taps P (ix3 (7 : Fin 9) r d) = _
    pointwise [taps]
  · show taps P (ix3 (8 : Fin 9) r d) = _
    pointwise [taps]

/-- The zero-padded image: each byte less the image's zero point, read as a signed word. -/
def padded (x : Vec Ideal S4x8x6x1536 .i8) (z : Vec Ideal S1 .i32) : Vec Ideal S4x8x10x1536 .bf16 :=
  sitofp (F := Ideal) .bf16 (pad S4x8x10x1536 ![0, 1, 1, 0] ![0, 1, 1, 0] ![0, 0, 0, 0]
    (subi (extui 32 (transpose S4x6x8x1536 [0, 2, 1, 3] x transposes_S4x8x6x1536_S4x6x8x1536_0_2_1_3) natLt_8_32)
      (broadcastInDim S4x6x8x1536 ![] bcast_S_S4x6x8x1536 (shapeCast S_ z shapeCasts_S1_S_)))
    (constantI S_ 32 0#32) pads_S4x6x8x1536_S4x8x10x1536_000_110_110_000 h_S_)

/-- The launch's image operand is the stack of taps. -/
theorem v34_eq (c : Dev nD) :
    V m c main_v34 = taps (padded (m ((c : Thread nD τ).loc main_arg0)) (m ((c : Thread nD τ).loc main_arg1))) := by
  simp only [V, V0]
  after_reads_simp [nary9_result]
  rfl

/-- The four scalars the kernel's launch is given: the weights' zero point less 128, the multiplier, the shift amount
    and the output's zero point. -/
def scalars (wz mul sh oz : Vec Ideal S1 .i32) : Vec Ideal S4 .i32 :=
  concatenate S4 0 [⟨S1, subi wz (broadcastInDim S1 ![] bcast_S_S1 (constantI S_ 32 128#32))⟩, ⟨S1, mul⟩, ⟨S1, negi sh⟩,
    ⟨S1, oz⟩] concatenates_S1_S1_S1_S1_S4_d0

/-- The launch's scalar operand is the four scalars. -/
theorem v40_eq (c : Dev nD) :
    V m c main_v40 = scalars (m ((c : Thread nD τ).loc main_arg3)) (m ((c : Thread nD τ).loc main_arg5))
      (m ((c : Thread nD τ).loc main_arg6)) (m ((c : Thread nD τ).loc main_arg7)) := by
  simp only [V, V0]
  after_reads_simp [nary9_result]
  rfl

variable (wz mul sh oz : Vec Ideal S1 .i32)

/-- The four scalars, one by one. -/
theorem scalars_0 : scalars wz mul sh oz (ix1 (0 : Fin 4)) = wz (ix1 0) - 128#32 := by
  pointwise [scalars]
  rfl
theorem scalars_1 : scalars wz mul sh oz (ix1 (1 : Fin 4)) = mul (ix1 0) := by
  pointwise [scalars]
theorem scalars_2 : scalars wz mul sh oz (ix1 (2 : Fin 4)) = - sh (ix1 0) := by
  pointwise [scalars]
theorem scalars_3 : scalars wz mul sh oz (ix1 (3 : Fin 4)) = oz (ix1 0) := by
  pointwise [scalars]

/-- Entry `(b, h, w, d)` of the image, bordered by zeros and taken off its zero point; `h` and `w` count the border. -/
def xv (x : Vec Ideal S4x8x6x1536 .i8) (z : BitVec 32) (b : Fin 4) (h w : ℕ) (d : Fin 1536) : BitVec 32 :=
  if p : (1 ≤ h ∧ h - 1 < 8) ∧ (1 ≤ w ∧ w - 1 < 6) then
    (x (ix4 b (⟨h - 1, p.1.2⟩ : Fin 8) (⟨w - 1, p.2.2⟩ : Fin 6) d)).setWidth 32 - z
  else 0#32

/-- The zero-padded image at an index: the entry less its zero point, or zero on the border. -/
theorem padded_apply (x : Vec Ideal S4x8x6x1536 .i8) (z : Vec Ideal S1 .i32) (b : Fin 4) (w : Fin 8) (h : Fin 10) (d : Fin 1536) :
    padded x z (ix4 b w h d) = (((xv x (z (ix1 0)) b h w d).toInt : ℝ) : EReal) := by
  pointwise [padded]
  unfold xv
  by_cases p : (1 ≤ h.val ∧ h.val - 1 < 8) ∧ (1 ≤ w.val ∧ w.val - 1 < 6)
  · rw [dif_pos p, dif_pos p.symm]; rfl
  · rw [dif_neg p, dif_neg (fun q => p q.symm)]; rfl

/-- The launch's weight operand at an index. -/
theorem wt_apply (c : Dev nD) (t : Fin 9) (n : Fin 2048) (d : Fin 1536) :
    V m c main_v36 (ix3 t n d) = m ((c : Thread nD τ).loc main_arg2)
      (ix4 n (⟨t.val / 3, by omega⟩ : Fin 3) (⟨t.val % 3, by omega⟩ : Fin 3) d) := by
  simp only [V, V0]
  after_reads_simp
  show shapeCast S9x2048x1536 _ shapeCasts_S3x3x2048x1536_S9x2048x1536 (ix3 t n d) = _
  pointwise

/-- The launch's bias operand at an index. -/
theorem bias_apply (c : Dev nD) (n : Fin 2048) :
    V m c main_v41 (ix2 0 n) = m ((c : Thread nD τ).loc main_arg4) (ix1 n) := by
  simp only [V, V0]
  after_reads_simp
  show shapeCast S1x2048 _ shapeCasts_S2048_S1x2048 (ix2 0 n) = _
  pointwise

end Cert.KernelIdeal.Value
-- ==== Proof.Blocks.lean ====
/-
  The block each grid point reads of every operand: point `t` is tap `t % 9` of output-channel block `t / 9`.
-/
module

public import Idealize.ShloMosaic.Lib.Pointwise
public import Idealize.ShloMosaic.Lib.Claim
public import Idealize.ShloMosaic.Lib.Pipeline.ValueKit
public import proofs.«01_k».proof.Proof.Prologue

@[expose] public section

set_option maxRecDepth 16384

noncomputable section

namespace Cert.KernelIdeal.Value

open Idealize.ShloMosaic Idealize.ShloMosaic.TcCoe Idealize.SL.Sem
open Cert.KernelIdeal Cert.KernelIdeal.Gen Cert.Qconv
variable (m : (ℓ : Loc nD τ sig) → Buf (Elt Ideal) ℓ)

/-- The block each window reads at a grid point, by the point's tap and channel block. -/
theorem idx : ∀ t : Fin cfg0.N, win0_0.index t = ![0] ∧ win0_1.index t = ![t.val % 9, 0, 0]
    ∧ win0_2.index t = ![t.val % 9, t.val / 9, 0] ∧ win0_3.index t = ![0, t.val / 9] ∧ win0_4.index t = ![0, t.val / 9] :=
  (by decide +kernel : ∀ t : Fin grid0.N, win0_0.index t = ![0] ∧ win0_1.index t = ![t.val % 9, 0, 0]
    ∧ win0_2.index t = ![t.val % 9, t.val / 9, 0] ∧ win0_3.index t = ![0, t.val / 9] ∧ win0_4.index t = ![0, t.val / 9])

/-- There are 36 grid points. -/
theorem lt36 (t : Fin cfg0.N) : t.val < 36 := lt_of_lt_of_eq t.isLt (show cfg0.N = 36 from N_0)

/-- Row `r` of tap `t` at channel `d`: the image's entry the tap reads for output pixel `r`. -/
def xcol (x : Vec Ideal S4x8x6x1536 .i8) (z : BitVec 32) (t : ℕ) (r : Fin 192) (d : Fin 1536) : BitVec 32 :=
  xv x z (⟨r.val / 48, by omega⟩ : Fin 4) (t / 3 + r.val % 8) (t % 3 + r.val / 8 % 6) d

/-- Output channel `n`'s weight byte of tap `t` at input channel `d`. -/
def wcol (w : Vec Ideal S2048x3x3x1536 .i8) (t : ℕ) (n : Fin 2048) (d : Fin 1536) : BitVec 8 :=
  w (ix4 n (⟨t / 3 % 3, by omega⟩ : Fin 3) (⟨t % 3, by omega⟩ : Fin 3) d)

/-- Output channel `j` of block `t / 9`. -/
def col (t : Fin cfg0.N) (j : Fin 512) : Fin 2048 := ⟨512 * (t.val / 9) + j.val, by have := lt36 t; omega⟩

/-- The image block at point `t` holds tap `t % 9`'s rows. -/
theorem blk1 (c : Dev nD) (t : Fin cfg0.N) (r : Fin 192) (k : Fin 1536) :
    iblk m c 1 t (ix3 0 r k) = (((xcol (m ((c : Thread nD τ).loc main_arg0)) (m ((c : Thread nD τ).loc main_arg1) (ix1 0))
      (t.val % 9) r k).toInt : ℝ) : EReal) := by
  have h := lt36 t
  have e : iblk m c 1 t (ix3 0 r k) = V m c main_v34 (ix3 (⟨t.val % 9, by omega⟩ : Fin 9) r k) := by
    blk_simp [iblk, idx t]
    refine congrArg _ (funext fun a => Fin.ext ?_)
    match a with
    | ⟨0, _⟩ => show win0_1.index t 0 * 1 + 1 * 0 = t.val % 9; rw [(idx t).2.1]; simp
    | ⟨1, _⟩ => show win0_1.index t 1 * 192 + 1 * r.val = r.val; rw [(idx t).2.1]; simp
    | ⟨2, _⟩ => show win0_1.index t 2 * 1536 + 1 * k.val = k.val; rw [(idx t).2.1]; simp
  rw [e, v34_eq, taps_apply, padded_apply]
  rfl

/-- The weight block at point `t` holds tap `t % 9`'s weights of channel block `t / 9`. -/
theorem blk2 (c : Dev nD) (t : Fin cfg0.N) (n : Fin 512) (k : Fin 1536) :
    iblk m c 2 t (ix3 0 n k) = wcol (m ((c : Thread nD τ).loc main_arg2)) (t.val % 9) (col t n) k := by
  have h := lt36 t
  have e : iblk m c 2 t (ix3 0 n k) = V m c main_v36 (ix3 (⟨t.val % 9, by omega⟩ : Fin 9) (col t n) k) := by
    blk_simp [iblk, idx t]
    refine congrArg _ (funext fun a => Fin.ext ?_)
    match a with
    | ⟨0, _⟩ => show win0_2.index t 0 * 1 + 1 * 0 = t.val % 9; rw [(idx t).2.2.1]; simp
    | ⟨1, _⟩ => show win0_2.index t 1 * 512 + 1 * n.val = 512 * (t.val / 9) + n.val; rw [(idx t).2.2.1]; simp; omega
    | ⟨2, _⟩ => show win0_2.index t 2 * 1536 + 1 * k.val = k.val; rw [(idx t).2.2.1]; simp
  rw [e, wt_apply]
  unfold wcol
  have q : t.val % 9 / 3 % 3 = t.val % 9 / 3 := by omega
  refine congrArg _ (funext fun a => Fin.ext ?_)
  match a with
  | ⟨0, _⟩ => rfl
  | ⟨1, _⟩ => exact q.symm
  | ⟨2, _⟩ => rfl
  | ⟨3, _⟩ => rfl

/-- The bias block at point `t` holds channel block `t / 9`'s biases. -/
theorem blk3 (c : Dev nD) (t : Fin cfg0.N) (n : Fin 512) :
    iblk m c 3 t (ix2 0 n) = m ((c : Thread nD τ).loc main_arg4) (ix1 (col t n)) := by
  have e : iblk m c 3 t (ix2 0 n) = V m c main_v41 (ix2 0 (col t n)) := by
    blk_simp [iblk, idx t]
    refine congrArg _ (funext fun a => Fin.ext ?_)
    match a with
    | ⟨0, _⟩ => show win0_3.index t 0 * 1 + 1 * 0 = 0; rw [(idx t).2.2.2.1]; simp
    | ⟨1, _⟩ => show win0_3.index t 1 * 512 + 1 * n.val = 512 * (t.val / 9) + n.val; rw [(idx t).2.2.2.1]; simp; omega
  rw [e, bias_apply]

/-- The scalar block is the four scalars at every point. -/
theorem blk0 (c : Dev nD) (t : Fin cfg0.N) (n : Fin 4) :
    iblk m c 0 t (ix1 n) = scalars (m ((c : Thread nD τ).loc main_arg3)) (m ((c : Thread nD τ).loc main_arg5))
      (m ((c : Thread nD τ).loc main_arg6)) (m ((c : Thread nD τ).loc main_arg7)) (ix1 n) := by
  have e : iblk m c 0 t (ix1 n) = V m c main_v40 (ix1 n) := by
    blk_simp [iblk, idx t]
    refine congrArg _ (funext fun a => Fin.ext ?_)
    match a with
    | ⟨0, _⟩ => show win0_0.index t 0 * 4 + 1 * n.val = n.val; rw [(idx t).1]; simp
  rw [e, v40_eq]

end Cert.KernelIdeal.Value
-- ==== Proof.Payload.lean ====
/-
  The body's expressions at an index: one 512-channel product, the row sums and the output block, then the three pieces
  of a tap put together as one exact sum of word products over its 1536 channels.
-/
module

public import Idealize.ShloMosaic.Lib.Pointwise
public import proofs.«01_k».proof.Proof.Points
public import proofs.«01_k».proof.Proof.Words

@[expose] public section

set_option maxRecDepth 16384

noncomputable section

namespace Cert.KernelIdeal.Value

open Idealize.ShloMosaic Idealize.ShloMosaic.TcCoe Idealize.SL.Sem
open Cert.KernelIdeal Cert.KernelIdeal.Gen Cert.Qconv

/-- The first channel third's update of the accumulator. -/
theorem pay13_apply (w : Vec Ideal S1x512x512 .i8) (x : Vec Ideal S1x192x512 .bf16) (acc : Vec Ideal S192x512 .i32) (r : Fin 192) (n : Fin 512) :
    k0_pay13 w x acc (ix2 r n) = acc (ix2 r n) +
      Ideal.fptosi 32 (Ideal.liftRound Ideal.roundHalfEven (∑ k : Fin 512, x (ix3 0 r k) * (((w (ix3 0 n k) ^^^ 128#8).toInt : ℝ) : EReal))) := by
  pointwise [k0_pay13]
  rfl

/-- The second channel third's update of the accumulator. -/
theorem pay14_apply (w : Vec Ideal S1x512x512 .i8) (x : Vec Ideal S1x192x512 .bf16) (acc : Vec Ideal S192x512 .i32) (r : Fin 192) (n : Fin 512) :
    k0_pay14 w x acc (ix2 r n) = acc (ix2 r n) +
      Ideal.fptosi 32 (Ideal.liftRound Ideal.roundHalfEven (∑ k : Fin 512, x (ix3 0 r k) * (((w (ix3 0 n k) ^^^ 128#8).toInt : ℝ) : EReal))) := by
  pointwise [k0_pay14]
  rfl

/-- The last channel third's update of the accumulator. -/
theorem pay15_apply (w : Vec Ideal S1x512x512 .i8) (x : Vec Ideal S1x192x512 .bf16) (acc : Vec Ideal S192x512 .i32) (r : Fin 192) (n : Fin 512) :
    k0_pay15 w x acc (ix2 r n) = acc (ix2 r n) +
      Ideal.fptosi 32 (Ideal.liftRound Ideal.roundHalfEven (∑ k : Fin 512, x (ix3 0 r k) * (((w (ix3 0 n k) ^^^ 128#8).toInt : ℝ) : EReal))) := by
  pointwise [k0_pay15]
  rfl

/-- The update of the row sums. -/
theorem pay12_apply (x : Vec Ideal S1x192x1536 .bf16) (s : Vec Ideal S192x128 .f32) (r : Fin 192) (n : Fin 128) :
    k0_pay12 x s (ix2 r n) = s (ix2 r n) + ∑ k : Fin 1536, x (ix3 0 r k) := by
  pointwise [k0_pay12]

/-- What the last tap stores: the accumulator less the weights' zero point times the row sums, plus the bias, requantized. -/
theorem out_apply (sc : Vec Ideal S4 .i32) (b : Vec Ideal S1x512 .i32) (acc : Vec Ideal S192x512 .i32) (s : Vec Ideal S192x128 .f32) (r : Fin 192) (n : Fin 512) :
    outStep sc b acc s (ix2 r n) = requant (acc (ix2 r n) - sc (ix1 (0 : Fin 4)) * Ideal.fptosi 32 (Ideal.liftRound Ideal.roundHalfEven (s (ix2 r 0)))
      + b (ix2 0 n)) (sc (ix1 (1 : Fin 4))) (sc (ix1 (2 : Fin 4))) (sc (ix1 (3 : Fin 4))) := by
  have hs : sCol s (ix2 r 0) = s (ix2 r 0) := by
    refine congrArg s (funext fun a => Fin.ext ?_)
    fin_cases a <;> simp [Rect.unit, LoadRect.idx]
  rw [requant, ← high_half]
  pointwise [outStep, k0_pay1, k0_pay2, k0_pay3, k0_pay4, k0_pay5, k0_pay6, k0_pay7, k0_pay8, k0_pay9]
  rw [hs]
  simp only [scW0_eq, scW1_eq, scW2_eq, scW3_eq, Scalar.shrsi, Scalar.shli, Scalar.subi, Scalar.andi, shrsi_unit .scalar, shli_unit .scalar]
  have hf : ∀ z : EReal, FloatOps.fptosi (F := Ideal) (φ := .f32) 32 z = Ideal.fptosi 32 z := fun _ => rfl
  rw [hf]
  have ha : acc (ix2 r n) - sc (ix1 (0 : Fin 4)) * Ideal.fptosi 32 (Ideal.liftRound Ideal.roundHalfEven (s (ix2 r 0))) + b (ix2 0 n)
    = IntOp.addi (IntOp.subi (acc (ix2 r n)) (IntOp.muli (sc (ix1 (0 : Fin 4)))
        (Ideal.fptosi 32 (Ideal.liftRound Ideal.roundHalfEven (s (ix2 r 0)))))) (b (ix2 0 n)) := rfl
  rw [ha]
  generalize IntOp.addi (IntOp.subi (acc (ix2 r n)) (IntOp.muli (sc (ix1 (0 : Fin 4)))
        (Ideal.fptosi 32 (Ideal.liftRound Ideal.roundHalfEven (s (ix2 r 0)))))) (b (ix2 0 n)) = a
  generalize sc (ix1 (1 : Fin 4)) = m
  generalize sc (ix1 (2 : Fin 4)) = e
  generalize sc (ix1 (3 : Fin 4)) = zo
  unfold roundClip highMulOf
  dsimp only

/-- The channel thirds of the image block, read at an index. -/
theorem xPiece0_apply (x : Vec Ideal S1x192x1536 .bf16) (r : Fin 192) (k : Fin 512) :
    xPiece0 x (ix3 0 r k) = x (ix3 0 r ⟨k.val, by omega⟩) := by
  refine congrArg x (funext fun a => Fin.ext ?_)
  fin_cases a <;> simp [Rect.unit, LoadRect.idx]
theorem xPiece1_apply (x : Vec Ideal S1x192x1536 .bf16) (r : Fin 192) (k : Fin 512) :
    xPiece1 x (ix3 0 r k) = x (ix3 0 r ⟨512 + k.val, by omega⟩) := by
  refine congrArg x (funext fun a => Fin.ext ?_)
  fin_cases a <;> simp [Rect.unit, LoadRect.idx]
theorem xPiece2_apply (x : Vec Ideal S1x192x1536 .bf16) (r : Fin 192) (k : Fin 512) :
    xPiece2 x (ix3 0 r k) = x (ix3 0 r ⟨1024 + k.val, by omega⟩) := by
  refine congrArg x (funext fun a => Fin.ext ?_)
  fin_cases a <;> simp [Rect.unit, LoadRect.idx]
theorem wPiece0_apply (x : Vec Ideal S1x512x1536 .i8) (r : Fin 512) (k : Fin 512) :
    wPiece0 x (ix3 0 r k) = x (ix3 0 r ⟨k.val, by omega⟩) := by
  refine congrArg x (funext fun a => Fin.ext ?_)
  fin_cases a <;> simp [Rect.unit, LoadRect.idx]
theorem wPiece1_apply (x : Vec Ideal S1x512x1536 .i8) (r : Fin 512) (k : Fin 512) :
    wPiece1 x (ix3 0 r k) = x (ix3 0 r ⟨512 + k.val, by omega⟩) := by
  refine congrArg x (funext fun a => Fin.ext ?_)
  fin_cases a <;> simp [Rect.unit, LoadRect.idx]
theorem wPiece2_apply (x : Vec Ideal S1x512x1536 .i8) (r : Fin 512) (k : Fin 512) :
    wPiece2 x (ix3 0 r k) = x (ix3 0 r ⟨1024 + k.val, by omega⟩) := by
  refine congrArg x (funext fun a => Fin.ext ?_)
  fin_cases a <;> simp [Rect.unit, LoadRect.idx]

/-- One 512-channel product, rounded to an integer, is the exact word sum: the rounded number is an integer of small size. -/
theorem chunk_eq (X : Fin 512 → BitVec 32) (W w : Fin 512 → BitVec 8) (x : Fin 512 → EReal)
    (hw : ∀ k, w k = W k)
    (hx : ∀ k, x k = (((X k).toInt : ℝ) : EReal)) (hb : ∀ k, |(X k).toInt| ≤ 255) :
    Ideal.fptosi 32 (Ideal.liftRound Ideal.roundHalfEven (∑ k : Fin 512, x k * (((w k ^^^ 128#8).toInt : ℝ) : EReal)))
      = ∑ k : Fin 512, X k * (W k ^^^ 128#8).signExtend 32 := by
  obtain rfl : w = W := funext hw
  generalize hV : (fun k => w k ^^^ 128#8) = V
  have hV' : ∀ k, w k ^^^ 128#8 = V k := fun k => congrFun hV k
  simp only [hV']
  have hV2 : ∀ k, ((V k).signExtend 32).toInt = (V k).toInt := fun k => BitVec.toInt_signExtend_of_le (by decide)
  have e : (∑ k : Fin 512, x k * (((V k).toInt : ℝ) : EReal))
      = (((∑ k : Fin 512, (X k).toInt * ((V k).signExtend 32).toInt : ℤ) : ℝ) : EReal) := by
    rw [← coe_sum_int]
    refine Finset.sum_congr rfl fun k _ => ?_
    rw [hx k, hV2 k, Int.cast_mul, EReal.coe_mul]
  have hB : |∑ k : Fin 512, (X k).toInt * ((V k).signExtend 32).toInt| ≤ 512 * (255 * 128) := by
    refine (Finset.abs_sum_le_sum_abs _ _).trans ?_
    calc ∑ k : Fin 512, |(X k).toInt * ((V k).signExtend 32).toInt| ≤ ∑ k : Fin 512, (255 * 128 : ℤ) := by
          refine Finset.sum_le_sum fun k _ => ?_
          rw [abs_mul, hV2 k]
          have h1 := (V k).toInt_lt; have h2 := (V k).le_toInt
          have h3 : |(V k).toInt| ≤ 128 := abs_le.2 ⟨by norm_num at h2; omega, by norm_num at h1; omega⟩
          exact mul_le_mul (hb k) h3 (abs_nonneg _) (by norm_num)
      _ = 512 * (255 * 128) := by simp
  have hB' := abs_le.1 hB
  rw [e, fptosi_round_int _ (by omega) (by omega), ofInt_sum_mul]

/-- A sum over 1536 channels is the sum over its three pieces. -/
theorem sum_pieces (f : Fin 1536 → BitVec 32) :
    ∑ k : Fin 1536, f k = (∑ k : Fin 512, f ⟨k.val, by omega⟩) + (∑ k : Fin 512, f ⟨512 + k.val, by omega⟩)
      + ∑ k : Fin 512, f ⟨1024 + k.val, by omega⟩ := by
  rw [show (∑ k : Fin 1536, f k) = ∑ k : Fin (512 + (512 + 512)), f k from rfl, Fin.sum_univ_add, Fin.sum_univ_add, ← add_assoc]
  refine congrArg₂ (· + ·) (congrArg₂ (· + ·) rfl rfl) (Finset.sum_congr rfl fun k _ => congrArg f (Fin.ext ?_))
  show 512 + (512 + k.val) = 1024 + k.val
  omega

/-- The accumulator after a tap: what it was and the tap's exact product sum. -/
theorem accStep_apply (X : Fin 1536 → BitVec 32) (x : Vec Ideal S1x192x1536 .bf16) (w : Vec Ideal S1x512x1536 .i8)
    (acc : Vec Ideal S192x512 .i32) (r : Fin 192) (n : Fin 512)
    (hx : ∀ k, x (ix3 0 r k) = (((X k).toInt : ℝ) : EReal)) (hb : ∀ k, |(X k).toInt| ≤ 255) :
    accStep x w acc (ix2 r n) = acc (ix2 r n) + ∑ k : Fin 1536, X k * (w (ix3 0 n k) ^^^ 128#8).signExtend 32 := by
  unfold accStep
  rw [pay15_apply, pay14_apply, pay13_apply, sum_pieces]
  rw [chunk_eq (fun k => X ⟨k.val, by omega⟩) (fun k => w (ix3 0 n ⟨k.val, by omega⟩)) _ _ (wPiece0_apply w n)
      (fun k => (xPiece0_apply x r k).trans (hx _)) (fun k => hb _),
    chunk_eq (fun k => X ⟨512 + k.val, by omega⟩) (fun k => w (ix3 0 n ⟨512 + k.val, by omega⟩)) _ _ (wPiece1_apply w n)
      (fun k => (xPiece1_apply x r k).trans (hx _)) (fun k => hb _),
    chunk_eq (fun k => X ⟨1024 + k.val, by omega⟩) (fun k => w (ix3 0 n ⟨1024 + k.val, by omega⟩)) _ _ (wPiece2_apply w n)
      (fun k => (xPiece2_apply x r k).trans (hx _)) (fun k => hb _), add_assoc, add_assoc, add_assoc]

end Cert.KernelIdeal.Value
-- ==== Proof.Sweep.lean ====
/-
  The grid's points one after the other. After point `n` the accumulator holds the word sums of taps `0 … n % 9` of its
  output-channel block, the row sums hold those of the first block's taps so far, and at a block's last tap the output
  block is the requantized accumulator.
-/
module

public import proofs.«01_k».proof.Proof.Blocks
public import proofs.«01_k».proof.Proof.Payload

@[expose] public section

set_option maxRecDepth 16384

noncomputable section

namespace Cert.KernelIdeal.Value

open Idealize.ShloMosaic Idealize.ShloMosaic.TcCoe Idealize.SL.Sem
open Cert.KernelIdeal Cert.KernelIdeal.Gen Cert.Qconv
variable (m : (ℓ : Loc nD τ sig) → Buf (Elt Ideal) ℓ)

/-- An entry less its zero point is at most 255 in size when the zero point is a byte. -/
theorem xv_bound (x : Vec Ideal S4x8x6x1536 .i8) (z : BitVec 32) (hz : z.toNat ≤ 255) (b : Fin 4) (h w : ℕ) (d : Fin 1536) :
    |(xv x z b h w d).toInt| ≤ 255 := by
  unfold xv
  split
  · next p =>
    generalize x (ix4 b (⟨h - 1, p.1.2⟩ : Fin 8) (⟨w - 1, p.2.2⟩ : Fin 6) d) = y
    change BitVec 8 at y
    have hy : y.toNat < 256 := y.isLt
    have e : (BitVec.setWidth 32 y - z).toInt = (y.toNat : ℤ) - z.toNat := by
      have h1 : (BitVec.setWidth 32 y).toInt = y.toNat := by
        rw [BitVec.toInt_eq_toNat_of_lt (by rw [BitVec.toNat_setWidth]; omega), BitVec.toNat_setWidth]; omega
      have h2 : z.toInt = z.toNat := BitVec.toInt_eq_toNat_of_lt (by omega)
      rw [BitVec.toInt_sub, h1, h2, Int.bmod_eq_of_le (by omega) (by omega)]
    rw [e, abs_le]; omega
  · simp

/-- The word product sum of tap `t` at row `r` and output channel `n`. -/
def tapDot (x : Vec Ideal S4x8x6x1536 .i8) (z : BitVec 32) (w : Vec Ideal S2048x3x3x1536 .i8) (r : Fin 192) (n : Fin 2048) (t : ℕ) : BitVec 32 :=
  ∑ k : Fin 1536, xcol x z t r k * (wcol w t n k ^^^ 128#8).signExtend 32

/-- The entry sum of tap `t` at row `r`, as an integer. -/
def tapRow (x : Vec Ideal S4x8x6x1536 .i8) (z : BitVec 32) (r : Fin 192) (t : ℕ) : ℤ :=
  ∑ k : Fin 1536, (xcol x z t r k).toInt

/-- The accumulator starts at zero. -/
theorem zero10 (i : S192x512.Idx) : (k0_pay10 : Vec Ideal S192x512 .i32) i = 0#32 := by
  pointwise [k0_pay10]

/-- The row sums start at zero. -/
theorem zero11 (i : S192x128.Idx) : (k0_pay11 (F := Ideal)) i = (0 : EReal) := by
  pointwise [k0_pay11]

section
variable (c : Dev nD)

/-- What one point adds to an accumulator entry. -/
theorem step_acc (hz : (m ((c : Thread nD τ).loc main_arg1) (ix1 0) : BitVec 32).toNat ≤ 255) (t : Fin cfg0.N) (acc : Vec Ideal S192x512 .i32) (r : Fin 192) (j : Fin 512) :
    accStep (iblk m c 1 t) (iblk m c 2 t) acc (ix2 r j) = acc (ix2 r j)
      + tapDot (m ((c : Thread nD τ).loc main_arg0)) (m ((c : Thread nD τ).loc main_arg1) (ix1 0)) (m ((c : Thread nD τ).loc main_arg2)) r (col t j) (t.val % 9) := by
  rw [accStep_apply (fun k => xcol (m ((c : Thread nD τ).loc main_arg0)) (m ((c : Thread nD τ).loc main_arg1) (ix1 0)) (t.val % 9) r k)
    _ _ _ _ _ (fun k => blk1 m c t r k) (fun k => xv_bound _ _ hz _ _ _ _)]
  refine congrArg (_ + ·) (Finset.sum_congr rfl fun k _ => ?_)
  rw [blk2]

/-- What one point adds to the row sums. -/
theorem step_rows (t : Fin cfg0.N) (s : Vec Ideal S192x128 .f32) (r : Fin 192) (j : Fin 128) :
    k0_pay12 (iblk m c 1 t) s (ix2 r j) = s (ix2 r j)
      + (((tapRow (m ((c : Thread nD τ).loc main_arg0)) (m ((c : Thread nD τ).loc main_arg1) (ix1 0)) r (t.val % 9) : ℤ) : ℝ) : EReal) := by
  rw [pay12_apply, tapRow, ← coe_sum_int]
  exact congrArg (_ + ·) (Finset.sum_congr rfl fun k _ => blk1 m c t r k)

/-- The first tap of a block starts the accumulator from zero. -/
theorem acc_first (t : Fin cfg0.N) (h0 : t.val % 9 = 0) :
    (outsAt0 m c t.val t.isLt).2.1 = accStep (iblk m c 1 t) (iblk m c 2 t) (k0_pay10 : Vec Ideal S192x512 .i32) := by
  have h := lt36 t
  by_cases h2 : t.val < 9
  · rw [outsAt0_A m c t h0 (by omega) h2 (by omega)]; dsimp only; rw [acc_A]
  · rw [outsAt0_D m c t h0 (by omega) h2 (by omega)]; dsimp only; rw [acc_D]

/-- Every later tap adds to it. -/
theorem acc_next (t : Fin cfg0.N) (h0 : ¬t.val % 9 = 0) :
    (outsAt0 m c t.val t.isLt).2.1 = accStep (iblk m c 1 t) (iblk m c 2 t) (outsAt0 m c (t.val - 1) (Nat.lt_of_le_of_lt (Nat.sub_le _ _) t.isLt)).2.1 := by
  have h := lt36 t
  by_cases h2 : t.val < 9 <;> by_cases h3 : t.val % 9 = 8
  · rw [outsAt0_C m c t h0 (by omega) h2 h3]; dsimp only; rw [acc_C]
  · rw [outsAt0_B m c t h0 (by omega) h2 h3]; dsimp only; rw [acc_B]
  · rw [outsAt0_F m c t h0 (by omega) h2 h3]; dsimp only; rw [acc_F]
  · rw [outsAt0_E m c t h0 (by omega) h2 h3]; dsimp only; rw [acc_E]

/-- The first point starts the row sums from zero. -/
theorem rows_first (t : Fin cfg0.N) (h0 : t.val = 0) :
    (outsAt0 m c t.val t.isLt).2.2 = k0_pay12 (iblk m c 1 t) (k0_pay11 (F := Ideal)) := by
  rw [outsAt0_A m c t (by omega) (by omega) (by omega) (by omega)]; dsimp only; rw [rows_A]

/-- The first block's later taps add to them. -/
theorem rows_next (t : Fin cfg0.N) (h0 : ¬t.val = 0) (h2 : t.val < 9) :
    (outsAt0 m c t.val t.isLt).2.2 = k0_pay12 (iblk m c 1 t) (outsAt0 m c (t.val - 1) (Nat.lt_of_le_of_lt (Nat.sub_le _ _) t.isLt)).2.2 := by
  by_cases h3 : t.val % 9 = 8
  · rw [outsAt0_C m c t (by omega) (by omega) h2 h3]; dsimp only; rw [rows_C]
  · rw [outsAt0_B m c t (by omega) (by omega) h2 h3]; dsimp only; rw [rows_B]

/-- The later blocks keep them. -/
theorem rows_keep (t : Fin cfg0.N) (h2 : ¬t.val < 9) :
    (outsAt0 m c t.val t.isLt).2.2 = (outsAt0 m c (t.val - 1) (Nat.lt_of_le_of_lt (Nat.sub_le _ _) t.isLt)).2.2 := by
  have h := lt36 t
  by_cases h0 : t.val % 9 = 0
  · rw [outsAt0_D m c t h0 (by omega) h2 (by omega)]; rfl
  by_cases h3 : t.val % 9 = 8
  · rw [outsAt0_F m c t h0 (by omega) h2 h3]; rfl
  · rw [outsAt0_E m c t h0 (by omega) h2 h3]; rfl

/-- A block's last tap stores the requantized accumulator. -/
theorem out_last (t : Fin cfg0.N) (h3 : t.val % 9 = 8) :
    (outsAt0 m c t.val t.isLt).1 = outStep (iblk m c 0 t) (iblk m c 3 t) (outsAt0 m c t.val t.isLt).2.1 (outsAt0 m c t.val t.isLt).2.2 := by
  have h := lt36 t
  by_cases h2 : t.val < 9
  · rw [outsAt0_C m c t (by omega) (by omega) h2 h3]; dsimp only; rw [out_C, acc_C, rows_C]
  · rw [outsAt0_F m c t (by omega) (by omega) h2 h3]; dsimp only; rw [out_F, acc_F]; rfl

/-- The accumulator after point `n`. -/
theorem acc_inv (hz : (m ((c : Thread nD τ).loc main_arg1) (ix1 0) : BitVec 32).toNat ≤ 255) (r : Fin 192) (j : Fin 512) :
    ∀ (n : ℕ) (hn : n < cfg0.N), (outsAt0 m c n hn).2.1 (ix2 r j) = ∑ t ∈ Finset.range (n % 9 + 1),
      tapDot (m ((c : Thread nD τ).loc main_arg0)) (m ((c : Thread nD τ).loc main_arg1) (ix1 0)) (m ((c : Thread nD τ).loc main_arg2)) r (col ⟨n, hn⟩ j) t := by
  intro n
  induction n with
  | zero =>
    intro hn
    have e := congrFun (acc_first m c ⟨0, hn⟩ (Nat.zero_mod _)) (ix2 r j)
    rw [step_acc m c hz, zero10] at e
    refine e.trans ?_
    simp
  | succ n ih =>
    intro hn
    by_cases h0 : (n + 1) % 9 = 0
    · have e := congrFun (acc_first m c ⟨n + 1, hn⟩ h0) (ix2 r j)
      rw [step_acc m c hz, zero10] at e
      refine e.trans ?_
      simp [h0]
    · have e := congrFun (acc_next m c ⟨n + 1, hn⟩ h0) (ix2 r j)
      rw [step_acc m c hz] at e
      refine e.trans ?_
      have hcol : col ⟨n, Nat.lt_of_succ_lt hn⟩ j = col ⟨n + 1, hn⟩ j := by
        apply Fin.ext
        show 512 * (n / 9) + j.val = 512 * ((n + 1) / 9) + j.val
        omega
      rw [Finset.sum_range_succ, show (n + 1) % 9 = n % 9 + 1 from by omega, ← hcol]
      refine congrArg (· + _) ?_
      exact ih (Nat.lt_of_succ_lt hn)

/-- The row sums after point `n`. -/
theorem rows_inv (r : Fin 192) (j : Fin 128) :
    ∀ (n : ℕ) (hn : n < cfg0.N), (outsAt0 m c n hn).2.2 (ix2 r j) = (((∑ t ∈ Finset.range (min n 8 + 1),
      tapRow (m ((c : Thread nD τ).loc main_arg0)) (m ((c : Thread nD τ).loc main_arg1) (ix1 0)) r t : ℤ) : ℝ) : EReal) := by
  intro n
  induction n with
  | zero =>
    intro hn
    have e := congrFun (rows_first m c ⟨0, hn⟩ rfl) (ix2 r j)
    rw [step_rows m c, zero11] at e
    refine e.trans ?_
    simp
  | succ n ih =>
    intro hn
    by_cases h2 : n + 1 < 9
    · have e := congrFun (rows_next m c ⟨n + 1, hn⟩ (Nat.succ_ne_zero n) h2) (ix2 r j)
      rw [step_rows m c] at e
      refine e.trans ?_
      have ih' := ih (Nat.lt_of_succ_lt hn)
      refine (congrArg (· + _) ih').trans ?_
      rw [← EReal.coe_add, ← Int.cast_add, show min n 8 = n from by omega, show min (n + 1) 8 = n + 1 from by omega,
        Finset.sum_range_succ _ (n + 1)]
      show (((_ + tapRow _ _ r ((n + 1) % 9) : ℤ) : ℝ) : EReal) = _
      rw [Nat.mod_eq_of_lt h2]
    · have e := congrFun (rows_keep m c ⟨n + 1, hn⟩ h2) (ix2 r j)
      refine e.trans ((ih (Nat.lt_of_succ_lt hn)).trans ?_)
      rw [show min n 8 = min (n + 1) 8 from by omega]

end

end Cert.KernelIdeal.Value
-- ==== Proof.Final.lean ====
/-
  The kernel's run: what each block's last tap stores, the whole array those blocks make, and the result after the
  reordering that follows.
-/
module

public import proofs.«01_k».proof.Proof.Sweep

@[expose] public section

set_option maxRecDepth 16384

noncomputable section

namespace Cert.KernelIdeal.Value

open Idealize.ShloMosaic Idealize.ShloMosaic.TcCoe Idealize.SL.Sem
open Cert.KernelIdeal Cert.KernelIdeal.Gen Cert.Qconv
variable (m : (ℓ : Loc nD τ sig) → Buf (Elt Ideal) ℓ)

/-- The accumulator the kernel requantizes at output row `r` and channel `n`: the taps' products, less the weights' zero
    point times the taps' entry sums, plus the bias. -/
def kernelAcc (x : Vec Ideal S4x8x6x1536 .i8) (z : BitVec 32) (w : Vec Ideal S2048x3x3x1536 .i8) (wz : BitVec 32)
    (b : Vec Ideal S2048 .i32) (r : Fin 192) (n : Fin 2048) : BitVec 32 :=
  (∑ t ∈ Finset.range 9, tapDot x z w r n t) - (wz - 128#32) * (∑ t ∈ Finset.range 9, ∑ k : Fin 1536, xcol x z t r k) + b (ix1 n)

/-- The kernel's output byte at row `r` and channel `n`. -/
def kernelOut (x : Vec Ideal S4x8x6x1536 .i8) (z : Vec Ideal S1 .i32) (w : Vec Ideal S2048x3x3x1536 .i8) (wz : Vec Ideal S1 .i32)
    (b : Vec Ideal S2048 .i32) (mul sh oz : Vec Ideal S1 .i32) (r : Fin 192) (n : Fin 2048) : BitVec 8 :=
  requant (kernelAcc x (z (ix1 0)) w (wz (ix1 0)) b r n) (mul (ix1 0)) (- sh (ix1 0)) (oz (ix1 0))

/-- The nine taps' row sums stay within 9 · 1536 · 255. -/
theorem tapRow_bound (x : Vec Ideal S4x8x6x1536 .i8) (z : BitVec 32) (hz : z.toNat ≤ 255) (r : Fin 192) :
    |∑ t ∈ Finset.range 9, tapRow x z r t| ≤ 9 * (1536 * 255) := by
  refine (Finset.abs_sum_le_sum_abs _ _).trans ?_
  calc ∑ t ∈ Finset.range 9, |tapRow x z r t| ≤ ∑ t ∈ Finset.range 9, (1536 * 255 : ℤ) := by
        refine Finset.sum_le_sum fun t _ => ?_
        unfold tapRow
        refine (Finset.abs_sum_le_sum_abs _ _).trans ?_
        calc ∑ k : Fin 1536, |(xcol x z t r k).toInt| ≤ ∑ k : Fin 1536, (255 : ℤ) :=
              Finset.sum_le_sum fun k _ => xv_bound x z hz _ _ _ _
          _ = 1536 * 255 := by simp
    _ = 9 * (1536 * 255) := by simp

/-- The rounded row sum is the exact word sum. -/
theorem rows_word (x : Vec Ideal S4x8x6x1536 .i8) (z : BitVec 32) (hz : z.toNat ≤ 255) (r : Fin 192) :
    Ideal.fptosi 32 (Ideal.liftRound Ideal.roundHalfEven (((∑ t ∈ Finset.range 9, tapRow x z r t : ℤ) : ℝ) : EReal))
      = ∑ t ∈ Finset.range 9, ∑ k : Fin 1536, xcol x z t r k := by
  have h := abs_le.1 (tapRow_bound x z hz r)
  rw [fptosi_round_int _ (by omega) (by omega)]
  have e : ∀ s : Finset ℕ, BitVec.ofInt 32 (∑ t ∈ s, tapRow x z r t) = ∑ t ∈ s, ∑ k : Fin 1536, xcol x z t r k := by
    intro s
    induction s using Finset.cons_induction with
    | empty => simp
    | cons a s ha ih => rw [Finset.sum_cons, Finset.sum_cons, BitVec.ofInt_add, ih, tapRow, ofInt_sum]
  exact e _

section
variable (c : Dev nD)

/-- The result array before the reordering, as a function of the arguments. -/
def G (c : Dev nD) : Buf (Elt Ideal) ((c : Thread nD τ).loc main_v42) := fun i =>
  kernelOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (⟨(i 0).val, (i 0).isLt⟩ : Fin 192) (⟨(i 1).val, (i 1).isLt⟩ : Fin 2048)

/-- What a block's last tap stores. -/
theorem out_entry (hz : (m ((c : Thread nD τ).loc main_arg1) (ix1 0) : BitVec 32).toNat ≤ 255) (t : Fin cfg0.N)
    (h3 : t.val % 9 = 8) (r : Fin 192) (j : Fin 512) :
    (outsAt0 m c t.val t.isLt).1 (ix2 r j) = G m c (ix2 r (col t j)) := by
  rw [out_last m c t h3, out_apply, acc_inv m c hz, rows_inv, blk3, h3, show min t.val 8 + 1 = 9 from by omega,
    rows_word _ _ hz, blk0, blk0, blk0, blk0, scalars_0, scalars_1, scalars_2, scalars_3]
  rfl

/-- The whole array the launch writes. -/
theorem final (hz : (m ((c : Thread nD τ).loc main_arg1) (ix1 0) : BitVec 32).toNat ≤ 255) :
    (dats m 0 c).arrAt 4 cfg0.N = G m c := by
  refine (dats m 0 c).arrAt_eq_of_covers 4 (G m c) (by decide +kernel) fun t hf y => ?_
  have h3 := (flush0_4 t).mp hf
  blk_simp
  rw [after0_4]
  have hy : y = ix2 (⟨(y 0).val, (y 0).isLt⟩ : Fin 192) (⟨(y 1).val, (y 1).isLt⟩ : Fin 512) := by
    funext a
    match a with
    | ⟨0, _⟩ => rfl
    | ⟨1, _⟩ => rfl
  refine (congrArg (outsAt0 m c t.val t.isLt).1 hy).trans ((out_entry m c hz t h3 _ _).trans (congrArg (G m c) ?_))
  funext a
  apply Fin.ext
  match a with
  | ⟨0, _⟩ => show (y 0).val = win0_4.index t 0 * 192 + 1 * (y 0).val; rw [(idx t).2.2.2.2]; simp
  | ⟨1, _⟩ => show 512 * (t.val / 9) + (y 1).val = win0_4.index t 1 * 512 + 1 * (y 1).val; rw [(idx t).2.2.2.2]; simp; omega

/-- The result's reordering: rows are `(image, column, row)`, put back in order. -/
theorem tail (A : Vec Ideal S192x2048 .i8) (σ : Valuation τ sig (Elt Ideal)) (hσ : σ (Proc.devRef .tc main_v42) = A)
    (b : Fin 4) (h : Fin 8) (w : Fin 6) (n : Fin 2048) :
    StableHlo.after (List.flatten [hostOps1]) σ (Proc.devRef .tc main_v44) (ix4 b h w n)
      = A (ix2 (⟨b.val * 48 + w.val * 8 + h.val, by omega⟩ : Fin 192) n) := by
  after_reads_simp
  rw [hσ]
  show transpose S4x8x6x2048 [0, 2, 1, 3] (shapeCast S4x6x8x2048 A shapeCasts_S192x2048_S4x6x8x2048) transposes_S4x6x8x2048_S4x8x6x2048_0_2_1_3 (ix4 b h w n) = _
  pointwise

/-- The launch's arrays are distinct buffers. -/
theorem arr_inj : Function.Injective (Pipeline.arrRef cfg0.spec) := by decide

/-- The result after the run, entry by entry. -/
theorem result (hz : (m ((c : Thread nD τ).loc main_arg1) (ix1 0) : BitVec 32).toNat ≤ 255)
    (r : PUnit × MemSt nD τ sig (Elt Ideal))
    (hr : Pipeline.FramePost cfgs (dats m) 0 (Pipeline.afterTail₀ cfgs (dats m) 0 (V0 m) [hostOps1]) r)
    (b : Fin 4) (h : Fin 8) (w : Fin 6) (n : Fin 2048) :
    r.2.mem ((c : Thread nD τ).loc main_v44) (ix4 b h w n)
      = kernelOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (⟨b.val * 48 + w.val * 8 + h.val, by omega⟩ : Fin 192) n := by
  have e := (hr c).2 main_v44 (Pipeline.mem_restRefs_of main_v44 (by decide) (by decide))
  rw [e]
  unfold Pipeline.afterTail₀
  refine (tail (G m c) _ ?_ b h w n).trans rfl
  exact (Pipeline.withArrays_arr (cfgs 0).spec arr_inj c _ _ 4).trans (final m c hz)

end

end Cert.KernelIdeal.Value
-- ==== Proof.RefTaps.lean ====
/-
  The reference's nine tap sums, read at an output entry as sums over the input channels.
-/
module

public import Idealize.ShloMosaic.Lib.Pointwise
public import proofs.«01_k».proof.Proof.Points
public import proofs.«01_k».proof.Proof.Words
public import proofs.«01_k».proof.Proof.Gen.ReferenceIdeal.Read

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Qconv

/-- The padded, re-centred image entry of row `hh`, column `ww` as a 32-bit word. -/
def px (x0 : Vec Ideal S4x8x6x1536 .i8) (x1 : Vec Ideal S1 .i32) (b : Fin 4) (hh : Fin 10) (ww : Fin 8) (d : Fin 1536) : BitVec 32 :=
  (val_main_v13 (F := Ideal) x0 x1 (ix4 b hh ww d) : BitVec 8).signExtend 32

/-- The re-centred weight as a 32-bit word. -/
def pw (x2 : Vec Ideal S2048x3x3x1536 .i8) (n : Fin 2048) (i j : Fin 3) (d : Fin 1536) : BitVec 32 :=
  (val_main_v7 (F := Ideal) x2 (ix4 n i j d) : BitVec 8).signExtend 32

/-- Every tap's image slice lies in the padded image. -/
theorem img_slices : ∀ i j : Fin 3, S4x10x8x1536.Slices ![0, i.val, j.val, 0] S4x8x6x1536 := by decide

/-- Every tap's weight slice lies in the weights. -/
theorem wgt_slices : ∀ i j : Fin 3, S2048x3x3x1536.Slices ![0, i.val, j.val, 0] S2048x1x1x1536 := by decide

/-- One tap as the reference computes it: the shifted image times the tap's weights, summed over the input channels. -/
def tapSum (P : Vec Ideal S4x10x8x1536 .i8) (Q : Vec Ideal S2048x3x3x1536 .i8) (i j : Fin 3) : Vec Ideal S4x8x6x2048 .i32 :=
  Host.reduce IntOp.addi
    (muli
      (broadcastInDim S4x8x6x2048x1536 ![0, 1, 2, 3, 4] bcast_S4x8x6x1x1536_S4x8x6x2048x1536_0_1_2_3_4
        (broadcastInDim S4x8x6x1x1536 ![0, 1, 2, 4] bcast_S4x8x6x1536_S4x8x6x1x1536_0_1_2_4
          (extsi 32 (extractStridedSlice S4x8x6x1536 ![0, i.val, j.val, 0] P (img_slices i j)) natLt_8_32)))
      (broadcastInDim S4x8x6x2048x1536 ![0, 1, 2, 3, 4] bcast_S1x1x1x2048x1536_S4x8x6x2048x1536_0_1_2_3_4
        (broadcastInDim S1x1x1x2048x1536 ![3, 4] bcast_S2048x1536_S1x1x1x2048x1536_3_4
          (shapeCast S2048x1536 (extractStridedSlice S2048x1x1x1536 ![0, i.val, j.val, 0] (extsi 32 Q natLt_8_32) (wgt_slices i j))
            shapeCasts_S2048x1x1x1536_S2048x1536))))
    (constantI S_ 32 0#32) reducesTo_S4x8x6x2048x1536_S4x8x6x2048_d4 h_S_

/-- A tap at an output entry is the sum of its products. -/
theorem tapSum_apply (P : Vec Ideal S4x10x8x1536 .i8) (Q : Vec Ideal S2048x3x3x1536 .i8) (i j : Fin 3)
    (b : Fin 4) (h : Fin 8) (w : Fin 6) (n : Fin 2048) :
    tapSum P Q i j (ix4 b h w n)
      = ∑ d : Fin 1536, (P (ix4 b (⟨i.val + h.val, by omega⟩ : Fin 10) (⟨j.val + w.val, by omega⟩ : Fin 8) d) : BitVec 8).signExtend 32
          * (Q (ix4 n i j d) : BitVec 8).signExtend 32 := by
  unfold tapSum
  rw [reduce_addi, Shape.ReducesTo.sum_fiber_r5_a4]
  refine (zero_add _).trans (Finset.sum_congr rfl fun d _ => congrArg₂ (fun u v : BitVec 32 => u * v) ?_ ?_)
  · pointwise
  · pointwise

/-- The reference's convolution at an output entry: over the filter's rows and columns, the sum of the products. -/
theorem v122_apply (x0 : Vec Ideal S4x8x6x1536 .i8) (x1 : Vec Ideal S1 .i32) (x2 : Vec Ideal S2048x3x3x1536 .i8)
    (b : Fin 4) (h : Fin 8) (w : Fin 6) (n : Fin 2048) :
    (val_main_v122 (F := Ideal) x0 x1 x2 (ix4 b h w n) : BitVec 32)
      = ∑ i : Fin 3, ∑ j : Fin 3, ∑ d : Fin 1536, px x0 x1 b ⟨i.val + h.val, by omega⟩ ⟨j.val + w.val, by omega⟩ d * pw x2 n i j d := by
  have e : (val_main_v14 (F := Ideal) (ix4 b h w n) : BitVec 32) = 0#32 := by rw [val_main_v14_apply]; rfl
  have T (i j : Fin 3) : ∑ d : Fin 1536, px x0 x1 b ⟨i.val + h.val, by omega⟩ ⟨j.val + w.val, by omega⟩ d * pw x2 n i j d
      = (tapSum (val_main_v13 (F := Ideal) x0 x1) (val_main_v7 (F := Ideal) x2) i j (ix4 b h w n) : BitVec 32) :=
    (tapSum_apply _ _ i j b h w n).symm
  have u : (val_main_v122 (F := Ideal) x0 x1 x2 (ix4 b h w n) : BitVec 32)
      = val_main_v14 (F := Ideal) (ix4 b h w n)
        + tapSum (val_main_v13 (F := Ideal) x0 x1) (val_main_v7 (F := Ideal) x2) 0 0 (ix4 b h w n)
        + tapSum (val_main_v13 (F := Ideal) x0 x1) (val_main_v7 (F := Ideal) x2) 0 1 (ix4 b h w n)
        + tapSum (val_main_v13 (F := Ideal) x0 x1) (val_main_v7 (F := Ideal) x2) 0 2 (ix4 b h w n)
        + tapSum (val_main_v13 (F := Ideal) x0 x1) (val_main_v7 (F := Ideal) x2) 1 0 (ix4 b h w n)
        + tapSum (val_main_v13 (F := Ideal) x0 x1) (val_main_v7 (F := Ideal) x2) 1 1 (ix4 b h w n)
        + tapSum (val_main_v13 (F := Ideal) x0 x1) (val_main_v7 (F := Ideal) x2) 1 2 (ix4 b h w n)
        + tapSum (val_main_v13 (F := Ideal) x0 x1) (val_main_v7 (F := Ideal) x2) 2 0 (ix4 b h w n)
        + tapSum (val_main_v13 (F := Ideal) x0 x1) (val_main_v7 (F := Ideal) x2) 2 1 (ix4 b h w n)
        + tapSum (val_main_v13 (F := Ideal) x0 x1) (val_main_v7 (F := Ideal) x2) 2 2 (ix4 b h w n) := rfl
  rw [u, e]
  simp only [T, Fin.sum_univ_three, add_assoc]
  exact BitVec.zero_add _

end Cert.ReferenceIdeal.Value
-- ==== Proof.RefSums.lean ====
/-
  The reference's three correction sums, read at an entry: the padded image over a window, the weights over a filter.
-/
module

public import Idealize.ShloMosaic.Lib.Pointwise
public import proofs.«01_k».proof.Proof.RefTaps

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Qconv

/-- A left fold of word additions is the starting word plus the sum. -/
theorem foldl_add {ι : Type*} (g : ι → BitVec 32) (l : List ι) (v : BitVec 32) :
    l.foldl (fun r n => r + g n) v = v + (l.map g).sum := by
  induction l generalizing v with
  | nil => simp
  | cons a l ih => rw [List.foldl_cons, ih, List.map_cons, List.sum_cons, add_assoc]

/-- The window's positions in row-major order. -/
theorem window_pos : ∀ n : Fin 9,
    ((⟨3, ![1, 3, 3]⟩ : Shape).rowMajor.symm (n : Fin (⟨3, ![1, 3, 3]⟩ : Shape).numel) 0).val = 0
    ∧ ((⟨3, ![1, 3, 3]⟩ : Shape).rowMajor.symm (n : Fin (⟨3, ![1, 3, 3]⟩ : Shape).numel) 1).val = n.val / 3
    ∧ ((⟨3, ![1, 3, 3]⟩ : Shape).rowMajor.symm (n : Fin (⟨3, ![1, 3, 3]⟩ : Shape).numel) 2).val = n.val % 3 := by
  decide +kernel

/-- A three-by-three window sum over rows and columns, read at an entry. -/
theorem window_apply (X : Vec Ideal S4x10x8 .i32) (Z : Vec Ideal S_ .i32) (hZ : ∀ i, Z i = 0#32) (b : Fin 4) (h : Fin 8) (w : Fin 6) :
    (Host.reduceWindow IntOp.addi ![1, 3, 3] ![1, 1, 1] ![0, 0, 0] ![0, 0, 0] X Z
      reduceWindows_S4x10x8_S4x8x6_w1s1p0_0_w3s1p0_0_w3s1p0_0 h_S_ (ix3 b h w) : BitVec 32)
      = ∑ t : Fin 9, X (ix3 b (⟨t.val / 3 + h.val, by omega⟩ : Fin 10) (⟨t.val % 3 + w.val, by omega⟩ : Fin 8)) := by
  unfold Host.reduceWindow
  refine (foldl_add _ _ _).trans ?_
  rw [hZ]
  refine (BitVec.zero_add _).trans ?_
  refine (Fin.sum_univ_def (n := 9) _).symm.trans (Finset.sum_congr rfl fun t _ => ?_)
  obtain ⟨e0, e1, e2⟩ := window_pos t
  have e0 : ((⟨3, ![1, 3, 3]⟩ : Shape).rowMajor.symm t 0).val = 0 := e0
  have e1 : ((⟨3, ![1, 3, 3]⟩ : Shape).rowMajor.symm t 1).val = t.val / 3 := e1
  have e2 : ((⟨3, ![1, 3, 3]⟩ : Shape).rowMajor.symm t 2).val = t.val % 3 := e2
  rw [dif_pos]
  · refine congrArg X (funext fun a => Fin.ext ?_)
    match a with
    | ⟨0, _⟩ => show b.val * 1 + ((⟨3, ![1, 3, 3]⟩ : Shape).rowMajor.symm t 0).val - 0 = b.val; omega
    | ⟨1, _⟩ => show h.val * 1 + ((⟨3, ![1, 3, 3]⟩ : Shape).rowMajor.symm t 1).val - 0 = t.val / 3 + h.val; omega
    | ⟨2, _⟩ => show w.val * 1 + ((⟨3, ![1, 3, 3]⟩ : Shape).rowMajor.symm t 2).val - 0 = t.val % 3 + w.val; omega
  · intro a
    match a with
    | ⟨0, _⟩ =>
      show 0 ≤ b.val * 1 + ((⟨3, ![1, 3, 3]⟩ : Shape).rowMajor.symm t 0).val
        ∧ b.val * 1 + ((⟨3, ![1, 3, 3]⟩ : Shape).rowMajor.symm t 0).val - 0 < 4
      omega
    | ⟨1, _⟩ =>
      show 0 ≤ h.val * 1 + ((⟨3, ![1, 3, 3]⟩ : Shape).rowMajor.symm t 1).val
        ∧ h.val * 1 + ((⟨3, ![1, 3, 3]⟩ : Shape).rowMajor.symm t 1).val - 0 < 10
      omega
    | ⟨2, _⟩ =>
      show 0 ≤ w.val * 1 + ((⟨3, ![1, 3, 3]⟩ : Shape).rowMajor.symm t 2).val
        ∧ w.val * 1 + ((⟨3, ![1, 3, 3]⟩ : Shape).rowMajor.symm t 2).val - 0 < 8
      omega

/-- The window's sum of padded entries. -/
theorem sum_x (x0 : Vec Ideal S4x8x6x1536 .i8) (x1 : Vec Ideal S1 .i32) (b : Fin 4) (h : Fin 8) (w : Fin 6) :
    val_main_v125 (F := Ideal) x0 x1 (ix3 b h w)
      = ∑ t : Fin 9, ∑ d : Fin 1536, px x0 x1 b ⟨t.val / 3 + h.val, by omega⟩ ⟨t.val % 3 + w.val, by omega⟩ d := by
  unfold val_main_v125
  refine (window_apply _ _ (fun _ => rfl) b h w).trans (Finset.sum_congr rfl fun t _ => ?_)
  unfold val_main_v124
  rw [reduce_addi, Shape.ReducesTo.sum_fiber_r4_a3]
  exact (zero_add _).trans (Finset.sum_congr rfl fun d _ => rfl)

/-- The filter positions of output channel `n`. -/
theorem fiber (h : S2048x3x3x1536.ReducesTo [1, 2, 3] S2048) (n : Fin 2048) (i : S2048x3x3x1536.Idx) :
    h.drop i = ix1 n ↔ ∃ k : Fin 3 × Fin 3 × Fin 1536, (ix4 n k.1 k.2.1 k.2.2 : S2048x3x3x1536.Idx) = i := by
  constructor
  · intro e
    refine ⟨(i 1, i 2, i 3), ?_⟩
    funext a; apply Fin.ext
    match a with
    | ⟨0, _⟩ => exact (congrArg Fin.val (congrFun e ⟨0, by decide⟩)).symm
    | ⟨1, _⟩ => rfl
    | ⟨2, _⟩ => rfl
    | ⟨3, _⟩ => rfl
  · rintro ⟨k, rfl⟩
    funext b
    apply Fin.ext
    match b with
    | ⟨0, _⟩ => rfl

/-- The filter's sum of weights. -/
theorem sum_w (x2 : Vec Ideal S2048x3x3x1536 .i8) (n : Fin 2048) :
    val_main_v127 (F := Ideal) x2 (ix1 n) = ∑ i : Fin 3, ∑ j : Fin 3, ∑ d : Fin 1536, pw x2 n i j d := by
  unfold val_main_v127
  rw [reduce_addi, Finset.sum_filter_eq_sum_of_fiber _ (fun k : Fin 3 × Fin 3 × Fin 1536 => (ix4 n k.1 k.2.1 k.2.2 : S2048x3x3x1536.Idx))
    (fun _ _ e => Prod.ext (congrFun e 1) (Prod.ext (congrFun e 2) (congrFun e 3))) (fiber _ n)]
  refine (zero_add _).trans ?_
  rw [Fintype.sum_prod_type]
  refine Finset.sum_congr rfl fun i _ => ?_
  rw [Fintype.sum_prod_type]
  rfl

end Cert.ReferenceIdeal.Value
-- ==== Proof.RefAcc.lean ====
/-
  The reference's accumulator, before the requantization, is the kernel's.
-/
module

public import Idealize.ShloMosaic.Lib.Pointwise
public import proofs.«01_k».proof.Proof.RefSums
public import proofs.«01_k».proof.Proof.Final
public import Mathlib.Tactic.Ring

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Qconv
open Cert.KernelIdeal.Value (xv xcol wcol tapDot kernelAcc kernelOut)

/-- Re-centring a byte fits in a signed byte. -/
theorem recentre : ∀ y : BitVec 8, ((y.setWidth 32 - 128#32).setWidth 8).signExtend 32 = y.setWidth 32 - 128#32 := by
  decide +kernel

/-- Re-centring a byte flips its top bit. -/
theorem flip_top : ∀ y : BitVec 8, (y.setWidth 32 - 128#32).setWidth 8 = y ^^^ 128#8 := by
  decide +kernel

/-- A zero point within a byte is re-centred the same way. -/
theorem recentre_word (z : BitVec 32) (hz : z.toNat ≤ 255) : ((z - 128#32).setWidth 8).signExtend 32 = z - 128#32 := by
  have e : z = (z.setWidth 8).setWidth 32 := by
    apply BitVec.eq_of_toNat_eq
    simp
    omega
  rw [e]
  exact recentre _

/-- A one-element array has one index. -/
theorem one_idx (j : S1.Idx) : j = ix1 0 := funext fun a => match a with
  | ⟨0, _⟩ => Subsingleton.elim (α := Fin 1) _ _

/-- The image's zero point as a scalar. -/
theorem v8_apply (x1 : Vec Ideal S1 .i32) (i : S_.Idx) : val_main_v8 (F := Ideal) x1 i = x1 (ix1 0) :=
  congrArg x1 (one_idx _)

/-- The weights' zero point as a scalar. -/
theorem v10_apply (x3 : Vec Ideal S1 .i32) (i : S_.Idx) : val_main_v10 (F := Ideal) x3 i = x3 (ix1 0) :=
  congrArg x3 (one_idx _)

/-- A re-centred weight is the kernel's re-centred weight byte. -/
theorem pw_eq (x2 : Vec Ideal S2048x3x3x1536 .i8) (n : Fin 2048) (i j : Fin 3) (d : Fin 1536) :
    pw x2 n i j d = ((x2 (ix4 n i j d) : BitVec 8) ^^^ 128#8).signExtend 32 :=
  congrArg (BitVec.signExtend 32) (flip_top (x2 (ix4 n i j d)))

/-- A padded, re-centred image entry is the kernel's entry plus the re-centred zero point. -/
theorem px_eq (x0 : Vec Ideal S4x8x6x1536 .i8) (x1 : Vec Ideal S1 .i32) (hz : (x1 (ix1 0) : BitVec 32).toNat ≤ 255)
    (b : Fin 4) (hh : Fin 10) (ww : Fin 8) (d : Fin 1536) :
    px x0 x1 b hh ww d = xv x0 (x1 (ix1 0)) b hh.val ww.val d + ((x1 (ix1 0) : BitVec 32) - 128#32) := by
  have e3 (i : S4x8x6x1536.Idx) : val_main_v3 (F := Ideal) x0 i = ((x0 i : BitVec 8).setWidth 32 - 128#32).setWidth 8 := rfl
  have e12 (i : S_.Idx) : val_main_v12 (F := Ideal) x1 i = ((x1 (ix1 0) : BitVec 32) - 128#32).setWidth 8 := by
    show ((val_main_v8 (F := Ideal) x1 i : BitVec 32) - 128#32).setWidth 8 = _
    rw [v8_apply]
  have e : val_main_v13 (F := Ideal) x0 x1 (ix4 b hh ww d)
      = if p : (1 ≤ hh.val ∧ hh.val - 1 < 8) ∧ (1 ≤ ww.val ∧ ww.val - 1 < 6) then
          val_main_v3 (F := Ideal) x0 (ix4 b ⟨hh.val - 1, p.1.2⟩ ⟨ww.val - 1, p.2.2⟩ d)
        else ((x1 (ix1 0) : BitVec 32) - 128#32).setWidth 8 := by
    unfold val_main_v13
    have e12' : val_main_v12 (F := Ideal) x1 (Shape.Idx.first h_S_) = ((x1 (ix1 0) : BitVec 32) - 128#32).setWidth 8 := e12 _
    generalize val_main_v3 (F := Ideal) x0 = P
    generalize val_main_v12 (F := Ideal) x1 = Q at e12'
    pointwise [e12']
  unfold px xv
  rw [e]
  by_cases p : (1 ≤ hh.val ∧ hh.val - 1 < 8) ∧ (1 ≤ ww.val ∧ ww.val - 1 < 6)
  · rw [dif_pos p, dif_pos p, e3, recentre]
    generalize (x0 (ix4 b ⟨hh.val - 1, p.1.2⟩ ⟨ww.val - 1, p.2.2⟩ d) : BitVec 8).setWidth 32 = y
    generalize (x1 (ix1 0) : BitVec 32) = z
    ring
  · rw [dif_neg p, dif_neg p, recentre_word _ hz]
    exact (BitVec.zero_add _).symm

/-- The re-centred convolution with its corrections is the convolution of the entries less their zero point. -/
theorem acc_ring (a w : ℕ → Fin 1536 → BitVec 32) (zi zw bias : BitVec 32) :
    (∑ t ∈ Finset.range 9, ∑ d, (a t d + zi) * w t d) - zw * (∑ t ∈ Finset.range 9, ∑ d, (a t d + zi))
        - zi * (∑ t ∈ Finset.range 9, ∑ d, w t d) + 13824 * zi * zw + bias
      = (∑ t ∈ Finset.range 9, ∑ d, a t d * w t d) - zw * (∑ t ∈ Finset.range 9, ∑ d, a t d) + bias := by
  have e1 (t : ℕ) : ∑ d, (a t d + zi) * w t d = ∑ d, a t d * w t d + zi * ∑ d, w t d := by
    rw [Finset.mul_sum, ← Finset.sum_add_distrib]
    exact Finset.sum_congr rfl fun d _ => add_mul _ _ _
  have e2 (t : ℕ) : ∑ d, (a t d + zi) = ∑ d, a t d + 1536 * zi := by
    rw [Finset.sum_add_distrib, Finset.sum_const, Finset.card_univ, Fintype.card_fin, nsmul_eq_mul]
    rfl
  simp only [e1, e2, Finset.sum_add_distrib, ← Finset.mul_sum, Finset.sum_const, Finset.card_range]
  rw [nsmul_eq_mul]
  rw [show ((9 : ℕ) : BitVec 32) = 9 from rfl, show (13824 : BitVec 32) = 9 * 1536 from by decide]
  generalize (9 : BitVec 32) = p
  generalize (1536 : BitVec 32) = q
  ring

/-- The accumulator from its four sums. -/
theorem v144_apply (x0 : Vec Ideal S4x8x6x1536 .i8) (x1 : Vec Ideal S1 .i32) (x2 : Vec Ideal S2048x3x3x1536 .i8)
    (x3 : Vec Ideal S1 .i32) (x4 : Vec Ideal S2048 .i32) (b : Fin 4) (h : Fin 8) (w : Fin 6) (n : Fin 2048) :
    (val_main_v144 (F := Ideal) x0 x1 x2 x3 x4 (ix4 b h w n) : BitVec 32)
      = val_main_v122 (F := Ideal) x0 x1 x2 (ix4 b h w n)
        - ((x3 (ix1 0) : BitVec 32) - 128#32) * val_main_v125 (F := Ideal) x0 x1 (ix3 b h w)
        - ((x1 (ix1 0) : BitVec 32) - 128#32) * val_main_v127 (F := Ideal) x2 (ix1 n)
        + 13824 * ((x1 (ix1 0) : BitVec 32) - 128#32) * ((x3 (ix1 0) : BitVec 32) - 128#32) + x4 (ix1 n) := by
  have e9 (i : S_.Idx) : val_main_v9 (F := Ideal) x1 i = (x1 (ix1 0) : BitVec 32) - 128#32 := by
    show (val_main_v8 (F := Ideal) x1 i : BitVec 32) - 128#32 = _
    rw [v8_apply]
  have e11 (i : S_.Idx) : val_main_v11 (F := Ideal) x3 i = (x3 (ix1 0) : BitVec 32) - 128#32 := by
    show (val_main_v10 (F := Ideal) x3 i : BitVec 32) - 128#32 = _
    rw [v10_apply]
  have e131 : val_main_v131 (F := Ideal) x0 x1 x3 (ix4 b h w n)
      = ((x3 (ix1 0) : BitVec 32) - 128#32) * val_main_v125 (F := Ideal) x0 x1 (ix3 b h w) := by
    generalize hP : val_main_v125 (F := Ideal) x0 x1 = P
    pointwise [val_main_v131, val_main_v130, val_main_v129, val_main_v128, hP, e11]
    rfl
  have e136 : val_main_v136 (F := Ideal) x1 x2 (ix4 b h w n)
      = ((x1 (ix1 0) : BitVec 32) - 128#32) * val_main_v127 (F := Ideal) x2 (ix1 n) := by
    generalize hP : val_main_v127 (F := Ideal) x2 = P
    pointwise [val_main_v136, val_main_v135, val_main_v134, val_main_v133, hP, e9]
    rfl
  have e140 : val_main_v140 (F := Ideal) x1 x3 (ix4 b h w n)
      = 13824 * ((x1 (ix1 0) : BitVec 32) - 128#32) * ((x3 (ix1 0) : BitVec 32) - 128#32) := by
    pointwise [val_main_v140, val_main_v139, val_main_v138, val_main_c_16, e9, e11]
    rfl
  have e143 : val_main_v143 (F := Ideal) x4 (ix4 b h w n) = x4 (ix1 n) := by
    pointwise [val_main_v143, val_main_v142]
  rw [← e131, ← e136, ← e140, ← e143]
  rfl

/-- The reference's accumulator is the kernel's. -/
theorem acc_eq (x0 : Vec Ideal S4x8x6x1536 .i8) (x1 : Vec Ideal S1 .i32) (x2 : Vec Ideal S2048x3x3x1536 .i8)
    (x3 : Vec Ideal S1 .i32) (x4 : Vec Ideal S2048 .i32) (hz : (x1 (ix1 0) : BitVec 32).toNat ≤ 255)
    (b : Fin 4) (h : Fin 8) (w : Fin 6) (n : Fin 2048) :
    (val_main_v144 (F := Ideal) x0 x1 x2 x3 x4 (ix4 b h w n) : BitVec 32)
      = kernelAcc x0 (x1 (ix1 0)) x2 (x3 (ix1 0)) x4 (⟨b.val * 48 + w.val * 8 + h.val, by omega⟩ : Fin 192) n := by
  have hx (t : ℕ) (d : Fin 1536) :
      xcol x0 (x1 (ix1 0)) t (⟨b.val * 48 + w.val * 8 + h.val, by omega⟩ : Fin 192) d
        = xv x0 (x1 (ix1 0)) b (t / 3 + h.val) (t % 3 + w.val) d := by
    unfold xcol
    congr 1
    · apply Fin.ext
      show (b.val * 48 + w.val * 8 + h.val) / 48 = b.val
      omega
    · show t / 3 + (b.val * 48 + w.val * 8 + h.val) % 8 = _
      omega
    · show t % 3 + (b.val * 48 + w.val * 8 + h.val) / 8 % 6 = _
      omega
  unfold kernelAcc tapDot
  simp only [hx]
  rw [← acc_ring (fun t d => xv x0 (x1 (ix1 0)) b (t / 3 + h.val) (t % 3 + w.val) d)
    (fun t d => (wcol x2 t n d ^^^ 128#8).signExtend 32) ((x1 (ix1 0) : BitVec 32) - 128#32)]
  have h1 : (val_main_v122 (F := Ideal) x0 x1 x2 (ix4 b h w n) : BitVec 32)
      = ∑ t ∈ Finset.range 9, ∑ d, (xv x0 (x1 (ix1 0)) b (t / 3 + h.val) (t % 3 + w.val) d + ((x1 (ix1 0) : BitVec 32) - 128#32))
          * (wcol x2 t n d ^^^ 128#8).signExtend 32 := by
    rw [v122_apply]
    simp only [px_eq x0 x1 hz, pw_eq, Fin.sum_univ_three, Finset.sum_range_succ, Finset.sum_range_zero, zero_add, add_assoc]
    rfl
  have h2 : (val_main_v125 (F := Ideal) x0 x1 (ix3 b h w) : BitVec 32)
      = ∑ t ∈ Finset.range 9, ∑ d, (xv x0 (x1 (ix1 0)) b (t / 3 + h.val) (t % 3 + w.val) d + ((x1 (ix1 0) : BitVec 32) - 128#32)) := by
    rw [sum_x]
    simp only [px_eq x0 x1 hz]
    exact Fin.sum_univ_eq_sum_range (fun t => ∑ d, (xv x0 (x1 (ix1 0)) b (t / 3 + h.val) (t % 3 + w.val) d + ((x1 (ix1 0) : BitVec 32) - 128#32))) 9
  have h3 : (val_main_v127 (F := Ideal) x2 (ix1 n) : BitVec 32)
      = ∑ t ∈ Finset.range 9, ∑ d, (wcol x2 t n d ^^^ 128#8).signExtend 32 := by
    rw [sum_w]
    simp only [pw_eq, Fin.sum_univ_three, Finset.sum_range_succ, Finset.sum_range_zero, zero_add, add_assoc]
    rfl
  rw [v144_apply, h1, h2, h3]

end Cert.ReferenceIdeal.Value
-- ==== Proof.RefOut.lean ====
/-
  The reference's requantization of its accumulator is the kernel's, and with it the reference's result is the kernel's.
-/
module

public import Idealize.ShloMosaic.Lib.Pointwise
public import proofs.«01_k».proof.Proof.RefAcc

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Qconv
open Cert.KernelIdeal.Value (kernelAcc kernelOut)

/-- The output multiplier as a scalar. -/
theorem v145_apply (x5 : Vec Ideal S1 .i32) (i : S_.Idx) : val_main_v145 (F := Ideal) x5 i = x5 (ix1 0) :=
  congrArg x5 (one_idx _)

/-- The output shift as a scalar. -/
theorem v184_apply (x6 : Vec Ideal S1 .i32) (i : S_.Idx) : val_main_v184 (F := Ideal) x6 i = x6 (ix1 0) :=
  congrArg x6 (one_idx _)

/-- The output zero point as a scalar. -/
theorem v201_apply (x7 : Vec Ideal S1 .i32) (i : S_.Idx) : val_main_v201 (F := Ideal) x7 i = x7 (ix1 0) :=
  congrArg x7 (one_idx _)

/-- The rounding doubling high product of the accumulator and the multiplier. -/
theorem v183_apply (x0 : Vec Ideal S4x8x6x1536 .i8) (x1 : Vec Ideal S1 .i32) (x2 : Vec Ideal S2048x3x3x1536 .i8)
    (x3 : Vec Ideal S1 .i32) (x4 : Vec Ideal S2048 .i32) (x5 : Vec Ideal S1 .i32) (b : Fin 4) (h : Fin 8) (w : Fin 6) (n : Fin 2048)
    (a : BitVec 32) (ha : val_main_v144 (F := Ideal) x0 x1 x2 x3 x4 (ix4 b h w n) = a) :
    val_main_v183 (F := Ideal) x0 x1 x2 x3 x4 x5 (ix4 b h w n)
      = highMulOf (IntOp.shrui .vector (IntOp.muli (IntOp.andi a 65535#32) (IntOp.andi (x5 (ix1 0)) 65535#32)) 16#32) a (x5 (ix1 0)) := by
  generalize hA : val_main_v144 (F := Ideal) x0 x1 x2 x3 x4 = A at ha
  have hM (i : S_.Idx) : val_main_v145 (F := Ideal) x5 i = x5 (ix1 0) := v145_apply x5 i
  generalize hB : val_main_v145 (F := Ideal) x5 = B at hM
  pointwise [val_main_v183, val_main_v182, val_main_v181, val_main_c_28, val_main_v180, val_main_v179, val_main_c_27,
      val_main_v178, val_main_v177, val_main_v176, val_main_c_26, val_main_v175, val_main_v174, val_main_v173,
      val_main_c_25, val_main_v172, val_main_v171, val_main_c_24, val_main_v170, val_main_v169, val_main_v168,
      val_main_v167, val_main_c_23, val_main_v166, val_main_v165, val_main_v164, val_main_c_22, val_main_v163,
      val_main_v162, val_main_c_21, val_main_v161, val_main_v160, val_main_v159, val_main_v158, val_main_v157,
      val_main_v156, val_main_v155, val_main_v154, val_main_v153, val_main_v152, val_main_v151, val_main_c_20,
      val_main_v150, val_main_c_19, val_main_v149, val_main_v148, val_main_c_18, val_main_v147, val_main_v146,
      val_main_c_17, id_eq, hA, hB, ha, hM]
  simp only [shrsi_unit .host, shrui_unit .host]
  rfl

/-- The rounding division by the power of two, the output zero point and the clip. -/
theorem v205_apply (x0 : Vec Ideal S4x8x6x1536 .i8) (x1 : Vec Ideal S1 .i32) (x2 : Vec Ideal S2048x3x3x1536 .i8)
    (x3 : Vec Ideal S1 .i32) (x4 : Vec Ideal S2048 .i32) (x5 x6 x7 : Vec Ideal S1 .i32) (b : Fin 4) (h : Fin 8) (w : Fin 6) (n : Fin 2048)
    (q : BitVec 32) (hq : val_main_v183 (F := Ideal) x0 x1 x2 x3 x4 x5 (ix4 b h w n) = q) :
    val_main_v205 (F := Ideal) x0 x1 x2 x3 x4 x5 x6 x7 (ix4 b h w n)
      = roundClip q (- (x6 (ix1 0) : BitVec 32)) (x7 (ix1 0)) := by
  generalize hA : val_main_v183 (F := Ideal) x0 x1 x2 x3 x4 x5 = A at hq
  have hM (i : S_.Idx) : val_main_v184 (F := Ideal) x6 i = x6 (ix1 0) := v184_apply x6 i
  generalize hB : val_main_v184 (F := Ideal) x6 = B at hM
  have hZ (i : S_.Idx) : val_main_v201 (F := Ideal) x7 i = x7 (ix1 0) := v201_apply x7 i
  generalize hC : val_main_v201 (F := Ideal) x7 = C at hZ
  pointwise [val_main_v205, val_main_v204, val_main_call1_v4, val_main_call1_v3, val_main_call1_v2, val_main_call1_v1,
      val_main_call1_v0, val_main_c_34, val_main_c_33, val_main_v203, val_main_v202, val_main_v200, val_main_v199,
      val_main_v198, val_main_v197, val_main_v196, val_main_v195, val_main_v194, val_main_v193, val_main_v192,
      val_main_v191, val_main_c_32, val_main_v190, val_main_c_31, val_main_v189, val_main_v188, val_main_v187,
      val_main_c_30, val_main_v186, val_main_c_29, val_main_v185, id_eq, hA, hB, hC, hq, hM, hZ]
  simp only [shrsi_unit .host, shli_unit .host]
  rfl

/-- The reference's result, entry by entry, is the kernel's. -/
theorem out_eq (x0 : Vec Ideal S4x8x6x1536 .i8) (x1 : Vec Ideal S1 .i32) (x2 : Vec Ideal S2048x3x3x1536 .i8)
    (x3 : Vec Ideal S1 .i32) (x4 : Vec Ideal S2048 .i32) (x5 x6 x7 : Vec Ideal S1 .i32)
    (hz : (x1 (ix1 0) : BitVec 32).toNat ≤ 255) (b : Fin 4) (h : Fin 8) (w : Fin 6) (n : Fin 2048) :
    val_main_v205 (F := Ideal) x0 x1 x2 x3 x4 x5 x6 x7 (ix4 b h w n)
      = kernelOut x0 x1 x2 x3 x4 x5 x6 x7 (⟨b.val * 48 + w.val * 8 + h.val, by omega⟩ : Fin 192) n := by
  unfold kernelOut requant
  exact v205_apply _ _ _ _ _ _ _ _ _ _ _ _ _ (v183_apply _ _ _ _ _ _ _ _ _ _ _ (acc_eq x0 x1 x2 x3 x4 hz b h w n))

end Cert.ReferenceIdeal.Value
-- ==== Proof.Agree.lean ====
/-
  The kernel's and the reference's results are one array, from a launch whose image zero point is a byte.
-/
module

public import proofs.«01_k».proof.Defs
public import proofs.«01_k».proof.Proof.Final
public import proofs.«01_k».proof.Proof.RefOut

@[expose] public section

set_option maxRecDepth 16384

noncomputable section

namespace Cert.Proof

open Idealize.ShloMosaic Idealize.SL.Sem
open Cert.KernelIdeal.Value (kernelOut)

/-- A word that is at least zero and at most 255, read as signed, is at most 255 read as unsigned. -/
theorem byte_of_signed (z : BitVec 32) (h : IntOp.andi (IntOp.cmpi .sge z 0#32) (IntOp.cmpi .sle z 255#32) = 1#1) : z.toNat ≤ 255 := by
  have h : BitVec.ofBool ((0#32).sle z) &&& BitVec.ofBool (z.sle 255#32) = 1#1 := h
  have h1 : (0#32).sle z = true ∧ z.sle 255#32 = true := by
    cases e1 : (0#32).sle z <;> cases e2 : z.sle 255#32 <;> rw [e1, e2] at h <;> simp_all
  have a := BitVec.sle_iff_toInt_le.1 h1.1
  have b := BitVec.sle_iff_toInt_le.1 h1.2
  have e0 : (0#32).toInt = 0 := by decide
  have e255 : (255#32).toInt = 255 := by decide
  rw [e0] at a
  rw [e255] at b
  have c := BitVec.toInt_eq_toNat_cond z
  have d := z.isLt
  split at c <;> omega

/-- The precondition bounds the image's zero point. -/
theorem zero_point_le [Cert.Pre_zero_point_is_uint8.Facts] (x0 : IVec Cert.Pre_zero_point_is_uint8.S4x8x6x1536 8)
    (x1 : IVec Cert.Pre_zero_point_is_uint8.S1 32) (x2 : IVec Cert.Pre_zero_point_is_uint8.S2048x3x3x1536 8)
    (x3 : IVec Cert.Pre_zero_point_is_uint8.S1 32) (x4 : IVec Cert.Pre_zero_point_is_uint8.S2048 32)
    (x5 x6 x7 : IVec Cert.Pre_zero_point_is_uint8.S1 32)
    (h : Cert.Pre_zero_point_is_uint8.fn (F := Ideal) x0 x1 x2 x3 x4 x5 x6 x7 = fun _ => 1#1) : (x1 (ix1 0) : BitVec 32).toNat ≤ 255 :=
  byte_of_signed _ (congrFun h (ix1 0))

/-- The result array as a function of the arguments. -/
def out (x0 : Vec Ideal Cert.KernelIdeal.S4x8x6x1536 .i8) (x1 : Vec Ideal Cert.KernelIdeal.S1 .i32)
    (x2 : Vec Ideal Cert.KernelIdeal.S2048x3x3x1536 .i8) (x3 : Vec Ideal Cert.KernelIdeal.S1 .i32)
    (x4 : Vec Ideal Cert.KernelIdeal.S2048 .i32) (x5 x6 x7 : Vec Ideal Cert.KernelIdeal.S1 .i32) :
    Vec Ideal Cert.KernelIdeal.S4x8x6x2048 .i8 := fun i =>
  kernelOut x0 x1 x2 x3 x4 x5 x6 x7
    (⟨(⟨(i 0).val, (i 0).isLt⟩ : Fin 4).val * 48 + (⟨(i 2).val, (i 2).isLt⟩ : Fin 6).val * 8 + (⟨(i 1).val, (i 1).isLt⟩ : Fin 8).val, by omega⟩ : Fin 192)
    (⟨(i 3).val, (i 3).isLt⟩ : Fin 2048)

/-- Every index of the result is its four coordinates. -/
theorem eta (i : Cert.KernelIdeal.S4x8x6x2048.Idx) :
    i = ix4 (⟨(i 0).val, (i 0).isLt⟩ : Fin 4) (⟨(i 1).val, (i 1).isLt⟩ : Fin 8) (⟨(i 2).val, (i 2).isLt⟩ : Fin 6) (⟨(i 3).val, (i 3).isLt⟩ : Fin 2048) := by
  funext a
  match a with
  | ⟨0, _⟩ => rfl
  | ⟨1, _⟩ => rfl
  | ⟨2, _⟩ => rfl
  | ⟨3, _⟩ => rfl

/-- An array that reads as the result at every entry is the result. -/
theorem out_ext (X : Vec Ideal Cert.KernelIdeal.S4x8x6x2048 .i8) (x0 : Vec Ideal Cert.KernelIdeal.S4x8x6x1536 .i8)
    (x1 : Vec Ideal Cert.KernelIdeal.S1 .i32) (x2 : Vec Ideal Cert.KernelIdeal.S2048x3x3x1536 .i8)
    (x3 : Vec Ideal Cert.KernelIdeal.S1 .i32) (x4 : Vec Ideal Cert.KernelIdeal.S2048 .i32) (x5 x6 x7 : Vec Ideal Cert.KernelIdeal.S1 .i32)
    (h : ∀ (b : Fin 4) (h : Fin 8) (w : Fin 6) (n : Fin 2048), X (ix4 b h w n)
      = kernelOut x0 x1 x2 x3 x4 x5 x6 x7 (⟨b.val * 48 + w.val * 8 + h.val, by omega⟩ : Fin 192) n) :
    X = out x0 x1 x2 x3 x4 x5 x6 x7 := by
  funext i
  refine (congrArg X (eta i)).trans ?_
  exact h _ _ _ _

/-- The reference's result on arguments equal to the kernel's. -/
theorem ref_out (x0 y0 : Vec Ideal Cert.KernelIdeal.S4x8x6x1536 .i8)
    (x1 y1 : Vec Ideal Cert.KernelIdeal.S1 .i32)
    (x2 y2 : Vec Ideal Cert.KernelIdeal.S2048x3x3x1536 .i8)
    (x3 y3 : Vec Ideal Cert.KernelIdeal.S1 .i32)
    (x4 y4 : Vec Ideal Cert.KernelIdeal.S2048 .i32)
    (x5 y5 : Vec Ideal Cert.KernelIdeal.S1 .i32)
    (x6 y6 : Vec Ideal Cert.KernelIdeal.S1 .i32)
    (x7 y7 : Vec Ideal Cert.KernelIdeal.S1 .i32)
    (hz : (x1 (ix1 0) : BitVec 32).toNat ≤ 255) (e0 : y0 = x0) (e1 : y1 = x1) (e2 : y2 = x2) (e3 : y3 = x3) (e4 : y4 = x4) (e5 : y5 = x5) (e6 : y6 = x6) (e7 : y7 = x7) :
    Cert.ReferenceIdeal.Read.val_main_v205 (F := Ideal) y0 y1 y2 y3 y4 y5 y6 y7 = out x0 x1 x2 x3 x4 x5 x6 x7 := by
  subst e0 e1 e2 e3 e4 e5 e6 e7
  exact out_ext _ _ _ _ _ _ _ _ _ (Cert.ReferenceIdeal.Value.out_eq _ _ _ _ _ _ _ _ hz)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Agree
public import Idealize.ShloMosaic.Lib.Claim
public import Idealize.ShloMosaic.Adequacy
public import Idealize.ShloMosaic.Init

@[expose] public section

noncomputable section

-- The claims about Kernel, KernelIdeal, ReferenceIdeal also say that every semaphore counter ends at zero; the proof shows that too.

namespace Cert.Proof

open Idealize.ShloMosaic Idealize.SL.Sem

/-- The reference's frame: its generated run, and it has no semaphores. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The precondition's stated shape relation. -/
theorem pre_facts : Cert.Pre_zero_point_is_uint8.Facts := ⟨by decide⟩

/-- The kernel and the reference, at the ideal instance, end with the same array. -/
theorem algebraic : Cert.algebraic_KernelIdeal_ReferenceIdeal_pre_zero_point_is_uint8 (hKernelIdeal := Cert.KernelIdeal.Gen.facts)
    (hReferenceIdeal := Cert.ReferenceIdeal.Gen.facts) (hPre_zero_point_is_uint8 := pre_facts) := by
  intro m g m' g' hpre hargs
  have hz (c : Dev Cert.KernelIdeal.nD) := @zero_point_le pre_facts _ _ _ _ _ _ _ _ (hpre c)
  refine ⟨fun c => out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)), ?_, ?_⟩
  · refine (θ_run Cert.KernelIdeal.defs _ _).mono (fun r h c => ⟨?_, h.2 c⟩)
      (θ_run_and (Cert.KernelIdeal.Gen.run_main m g) (Cert.KernelIdeal.Gen.unchanged m g))
    exact out_ext _ _ _ _ _ _ _ _ _ (Cert.KernelIdeal.Value.result m c (hz c) r h.1)
  · refine (θ_run Cert.ReferenceIdeal.defs _ _).mono (fun r h c => ⟨?_, (h c).2⟩)
      (Cert.ReferenceIdeal.Value.run (F := Ideal) m' g')
    refine (h c).1.trans ((Cert.ReferenceIdeal.Read.val_main_v205_eq (StableHlo.launchContents m' c)).trans ?_)
    obtain ⟨e0, e1, e2, e3, e4, e5, e6, e7⟩ := hargs c
    exact ref_out _ _ _ _ _ _ _ _ _ _ _ _ _ _ _ _ (hz c) e0 e1 e2 e3 e4 e5 e6 e7

theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  trivial, algebraic⟩

end Cert.Proof

end
